-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 1536]⟩ ⟨2, ![768, 24576]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 1536]⟩ ⟨2, ![768, 24576]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1536, 768]⟩ ⟨2, ![24576, 768]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x768 : Shape := ⟨2, ![768, 768]⟩
abbrev S768x1536 : Shape := ⟨2, ![768, 1536]⟩
abbrev S1536x768 : Shape := ⟨2, ![1536, 768]⟩
abbrev S384x384 : Shape := ⟨2, ![384, 384]⟩
abbrev S192x384 : Shape := ⟨2, ![192, 384]⟩
abbrev S96x384 : Shape := ⟨2, ![96, 384]⟩
abbrev S14 : Shape := ⟨1, ![14]⟩
abbrev S4 : Shape := ⟨1, ![4]⟩
abbrev S3 : Shape := ⟨1, ![3]⟩
abbrev S_ : Shape := ⟨0, ![]⟩
abbrev S384x768 : Shape := ⟨2, ![384, 768]⟩
abbrev S384x1536 : Shape := ⟨2, ![384, 1536]⟩
abbrev S1536x384 : Shape := ⟨2, ![1536, 384]⟩
abbrev S1 : Shape := ⟨1, ![1]⟩

abbrev nBuf : Space → Nat
  | .hbm => 5
  | .vmem => 20
  | .smem => 0
  | _ => 0

abbrev bufTy : (tb : Table) → Fin (tcTables nBuf tb) → BufTy
  | .hbm, ⟨0, _⟩ => ⟨S768x768, .f32⟩
  | .hbm, ⟨1, _⟩ => ⟨S768x1536, .f32⟩
  | .hbm, ⟨2, _⟩ => ⟨S768x1536, .f32⟩
  | .hbm, ⟨3, _⟩ => ⟨S1536x768, .f32⟩
  | .hbm, ⟨4, _⟩ => ⟨S768x768, .f32⟩
  | .local _ .vmem, ⟨0, _⟩ => ⟨S768x768, .f32⟩
  | .local _ .vmem, ⟨1, _⟩ => ⟨S768x1536, .f32⟩
  | .local _ .vmem, ⟨2, _⟩ => ⟨S768x1536, .f32⟩
  | .local _ .vmem, ⟨3, _⟩ => ⟨S1536x768, .f32⟩
  | .local _ .vmem, ⟨4, _⟩ => ⟨S768x768, .f32⟩
  | .local _ .vmem, ⟨5, _⟩ => ⟨S768x768, .bf16⟩
  | .local _ .vmem, ⟨6, _⟩ => ⟨S768x1536, .bf16⟩
  | .local _ .vmem, ⟨7, _⟩ => ⟨S768x768, .bf16⟩
  | .local _ .vmem, ⟨8, _⟩ => ⟨S768x1536, .bf16⟩
  | .local _ .vmem, ⟨9, _⟩ => ⟨S768x1536, .bf16⟩
  | .local _ .vmem, ⟨10, _⟩ => ⟨S1536x768, .bf16⟩
  | .local _ .vmem, ⟨11, _⟩ => ⟨S384x384, .bf16⟩
  | .local _ .vmem, ⟨12, _⟩ => ⟨S192x384, .bf16⟩
  | .local _ .vmem, ⟨13, _⟩ => ⟨S96x384, .bf16⟩
  | .local _ .vmem, ⟨14, _⟩ => ⟨S96x384, .bf16⟩
  | .local _ .vmem, ⟨15, _⟩ => ⟨S384x384, .bf16⟩
  | .local _ .vmem, ⟨16, _⟩ => ⟨S192x384, .bf16⟩
  | .local _ .vmem, ⟨17, _⟩ => ⟨S96x384, .bf16⟩
  | .local _ .vmem, ⟨18, _⟩ => ⟨S96x384, .bf16⟩
  | .local _ .vmem, ⟨19, _⟩ => ⟨S768x768, .bf16⟩
  | _, _ => ⟨S768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_scratch11 : Ref sig .tc := ⟨.vmem, 16, rfl⟩
abbrev cc0_scratch12 : Ref sig .tc := ⟨.vmem, 17, rfl⟩
abbrev cc0_scratch13 : Ref sig .tc := ⟨.vmem, 18, rfl⟩
abbrev cc0_scratch14 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_7 : BitVec 32 := 4#32
  let v12 : BitVec 32 := Scalar.muli v4 c4_i32_7
  let c4_i32 : BitVec 32 := 4#32
  let v3 : BitVec 32 := Scalar.remsi v2 c4_i32
  let c1_i32_8 : BitVec 32 := 1#32
  let v13 : BitVec 32 := Scalar.xori v3 c1_i32_8
  let v14 : BitVec 32 := Scalar.addi v12 v13
  let c1_i32_15 : BitVec 32 := 1#32
  let v25 : BitVec 32 := Scalar.muli v14 c1_i32_15
  let v26 : BitVec 32 := Scalar.addi c0_i32_16 v25
  v26.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_9 : BitVec 32 := 4#32
  let v15 : BitVec 32 := Scalar.muli v4 c4_i32_9
  let c3_i32 : BitVec 32 := 3#32
  let c4_i32 : BitVec 32 := 4#32
  let v3 : BitVec 32 := Scalar.remsi v2 c4_i32
  let v16 : BitVec 32 := Scalar.subi c3_i32 v3
  let v17 : BitVec 32 := Scalar.addi v15 v16
  let c1_i32_18 : BitVec 32 := 1#32
  let v27 : BitVec 32 := Scalar.muli v17 c1_i32_18
  let v28 : BitVec 32 := Scalar.addi c0_i32_19 v27
  v28.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_10 : BitVec 32 := 1#32
  let v18 : BitVec 32 := Scalar.xori v4 c1_i32_10
  let c4_i32_11 : BitVec 32 := 4#32
  let v19 : BitVec 32 := Scalar.muli v18 c4_i32_11
  let c4_i32 : BitVec 32 := 4#32
  let v3 : BitVec 32 := Scalar.remsi v2 c4_i32
  let v20 : BitVec 32 := Scalar.addi v19 v3
  let c1_i32_21 : BitVec 32 := 1#32
  let v29 : BitVec 32 := Scalar.muli v20 c1_i32_21
  let v30 : BitVec 32 := Scalar.addi c0_i32_22 v29
  v30.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_12 : BitVec 32 := 2#32
  let v21 : BitVec 32 := Scalar.xori v4 c2_i32_12
  let c4_i32_13 : BitVec 32 := 4#32
  let v22 : BitVec 32 := Scalar.muli v21 c4_i32_13
  let c4_i32 : BitVec 32 := 4#32
  let v3 : BitVec 32 := Scalar.remsi v2 c4_i32
  let v23 : BitVec 32 := Scalar.addi v22 v3
  let c1_i32_24 : BitVec 32 := 1#32
  let v31 : BitVec 32 := Scalar.muli v23 c1_i32_24
  let v32 : BitVec 32 := Scalar.addi c0_i32_25 v31
  v32.toNat
def k0_off1 (d0 : Dev nD) : Fin 2 → Nat :=
  let c1_i32_29 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v43 : BitVec 32 := Scalar.subi c1_i32_29 v8
  let c384_i32_30 : BitVec 32 := 384#32
  let v44 : BitVec 32 := Scalar.muli v43 c384_i32_30
  let v59 : Index := Scalar.indexCast v44
  let c0_40 : Index := 0#32
  ![v59.toNat, 0]
def k0_off2 (d0 : Dev nD) : Fin 2 → Nat :=
  let c1_i32_29 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v43 : BitVec 32 := Scalar.subi c1_i32_29 v8
  let c384_i32_30 : BitVec 32 := 384#32
  let v44 : BitVec 32 := Scalar.muli v43 c384_i32_30
  let v81 : Index := Scalar.indexCast v44
  let c0_54 : Index := 0#32
  ![v81.toNat, 0]
def k0_off3 (d0 : Dev nD) : Fin 2 → Nat :=
  let c1_i32_29 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v43 : BitVec 32 := Scalar.subi c1_i32_29 v8
  let c384_i32_30 : BitVec 32 := 384#32
  let v44 : BitVec 32 := Scalar.muli v43 c384_i32_30
  let v90 : Index := Scalar.indexCast v44
  let c0_59 : Index := 0#32
  ![v90.toNat, 0]
def k0_off4 (d0 : Dev nD) : Fin 2 → Nat :=
  let c1_i32_29 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v43 : BitVec 32 := Scalar.subi c1_i32_29 v8
  let c384_i32_30 : BitVec 32 := 384#32
  let v44 : BitVec 32 := Scalar.muli v43 c384_i32_30
  let c0_i32_65 : BitVec 32 := 0#32
  ![v44.toNat, 0]
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_7 : BitVec 32 := 4#32
  let v12 : BitVec 32 := Scalar.muli v4 c4_i32_7
  let c4_i32 : BitVec 32 := 4#32
  let v3 : BitVec 32 := Scalar.remsi v2 c4_i32
  let c1_i32_8 : BitVec 32 := 1#32
  let v13 : BitVec 32 := Scalar.xori v3 c1_i32_8
  let v14 : BitVec 32 := Scalar.addi v12 v13
  let c1_i32_63 : BitVec 32 := 1#32
  let v94 : BitVec 32 := Scalar.muli v14 c1_i32_63
  let v95 : BitVec 32 := Scalar.addi c0_i32_64 v94
  v95.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c384_i32 : BitVec 32 := 384#32
  let v33 : BitVec 32 := Scalar.muli v8 c384_i32
  let v101 : Index := Scalar.indexCast v33
  let c0_66 : Index := 0#32
  ![v101.toNat, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c384_i32 : BitVec 32 := 384#32
  let v33 : BitVec 32 := Scalar.muli v8 c384_i32
  let v111 : Index := Scalar.indexCast v33
  let c0_73 : Index := 0#32
  ![v111.toNat, 0]
def k0_off7 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v45 : BitVec 32 := Scalar.subi c1_i32_31 v10
  let c384_i32_32 : BitVec 32 := 384#32
  let v46 : BitVec 32 := Scalar.muli v45 c384_i32_32
  let v115 : Index := Scalar.indexCast v46
  let c0_74 : Index := 0#32
  ![v115.toNat, 0]
def k0_off8 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v45 : BitVec 32 := Scalar.subi c1_i32_31 v10
  let c384_i32_32 : BitVec 32 := 384#32
  let v46 : BitVec 32 := Scalar.muli v45 c384_i32_32
  let v120 : Index := Scalar.indexCast v46
  let c384_77 : Index := 384#32
  ![v120.toNat, 384]
def k0_off9 (d0 : Dev nD) : Fin 2 → Nat :=
  let c1_i32_31 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v45 : BitVec 32 := Scalar.subi c1_i32_31 v10
  let c384_i32_32 : BitVec 32 := 384#32
  let v46 : BitVec 32 := Scalar.muli v45 c384_i32_32
  let c384_i32_82 : BitVec 32 := 384#32
  ![v46.toNat, 384]
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_9 : BitVec 32 := 4#32
  let v15 : BitVec 32 := Scalar.muli v4 c4_i32_9
  let c3_i32 : BitVec 32 := 3#32
  let c4_i32 : BitVec 32 := 4#32
  let v3 : BitVec 32 := Scalar.remsi v2 c4_i32
  let v16 : BitVec 32 := Scalar.subi c3_i32 v3
  let v17 : BitVec 32 := Scalar.addi v15 v16
  let c1_i32_80 : BitVec 32 := 1#32
  let v124 : BitVec 32 := Scalar.muli v17 c1_i32_80
  let v125 : BitVec 32 := Scalar.addi c0_i32_81 v124
  v125.toNat
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c384_i32 : BitVec 32 := 384#32
  let v33 : BitVec 32 := Scalar.muli v8 c384_i32
  let v136 : Index := Scalar.indexCast v33
  let c0_87 : Index := 0#32
  ![v136.toNat, 0]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c384_i32_26 : BitVec 32 := 384#32
  let v38 : BitVec 32 := Scalar.muli v10 c384_i32_26
  let v140 : Index := Scalar.indexCast v38
  let c0_88 : Index := 0#32
  ![v140.toNat, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c384_i32_26 : BitVec 32 := 384#32
  let v38 : BitVec 32 := Scalar.muli v10 c384_i32_26
  let v145 : Index := Scalar.indexCast v38
  let c384_92 : Index := 384#32
  ![v145.toNat, 384]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c384_i32 : BitVec 32 := 384#32
  let v33 : BitVec 32 := Scalar.muli v8 c384_i32
  let c1_i32_93 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v149 : BitVec 32 := Scalar.subi c1_i32_93 v10
  let c192_i32_94 : BitVec 32 := 192#32
  let v150 : BitVec 32 := Scalar.muli v149 c192_i32_94
  let v151 : BitVec 32 := Scalar.addi v33 v150
  let v165 : Index := Scalar.indexCast v151
  let c0_108 : Index := 0#32
  ![v165.toNat, 0]
def k0_off14 (d0 : Dev nD) : Fin 2 → Nat :=
  let c1_i32_106 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v163 : BitVec 32 := Scalar.subi c1_i32_106 v10
  let c192_i32_107 : BitVec 32 := 192#32
  let v164 : BitVec 32 := Scalar.muli v163 c192_i32_107
  let v167 : Index := Scalar.indexCast v164
  let c0_109 : Index := 0#32
  ![v167.toNat, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c384_i32 : BitVec 32 := 384#32
  let v33 : BitVec 32 := Scalar.muli v8 c384_i32
  let c1_i32_93 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v149 : BitVec 32 := Scalar.subi c1_i32_93 v10
  let c192_i32_94 : BitVec 32 := 192#32
  let v150 : BitVec 32 := Scalar.muli v149 c192_i32_94
  let v151 : BitVec 32 := Scalar.addi v33 v150
  let c0_i32_115 : BitVec 32 := 0#32
  ![v151.toNat, 0]
def k0_dev7 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_9 : BitVec 32 := 4#32
  let v15 : BitVec 32 := Scalar.muli v4 c4_i32_9
  let c3_i32 : BitVec 32 := 3#32
  let c4_i32 : BitVec 32 := 4#32
  let v3 : BitVec 32 := Scalar.remsi v2 c4_i32
  let v16 : BitVec 32 := Scalar.subi c3_i32 v3
  let v17 : BitVec 32 := Scalar.addi v15 v16
  let c1_i32_113 : BitVec 32 := 1#32
  let v174 : BitVec 32 := Scalar.muli v17 c1_i32_113
  let v175 : BitVec 32 := Scalar.addi c0_i32_114 v174
  v175.toNat
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c384_i32 : BitVec 32 := 384#32
  let v33 : BitVec 32 := Scalar.muli v8 c384_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32 : BitVec 32 := 192#32
  let v34 : BitVec 32 := Scalar.muli v10 c192_i32
  let v35 : BitVec 32 := Scalar.addi v33 v34
  let v182 : Index := Scalar.indexCast v35
  let c0_117 : Index := 0#32
  ![v182.toNat, 0]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32_116 : BitVec 32 := 192#32
  let v181 : BitVec 32 := Scalar.muli v10 c192_i32_116
  let v184 : Index := Scalar.indexCast v181
  let c0_118 : Index := 0#32
  ![v184.toNat, 0]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c384_i32_26 : BitVec 32 := 384#32
  let v38 : BitVec 32 := Scalar.muli v10 c384_i32_26
  let c1_i32_95 : BitVec 32 := 1#32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v152 : BitVec 32 := Scalar.subi c1_i32_95 v8
  let c192_i32_96 : BitVec 32 := 192#32
  let v153 : BitVec 32 := Scalar.muli v152 c192_i32_96
  let v154 : BitVec 32 := Scalar.addi v38 v153
  let v201 : Index := Scalar.indexCast v154
  let c384_131 : Index := 384#32
  ![v201.toNat, 384]
def k0_off19 (d0 : Dev nD) : Fin 2 → Nat :=
  let c1_i32_129 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v199 : BitVec 32 := Scalar.subi c1_i32_129 v8
  let c192_i32_130 : BitVec 32 := 192#32
  let v200 : BitVec 32 := Scalar.muli v199 c192_i32_130
  let v203 : Index := Scalar.indexCast v200
  let c0_132 : Index := 0#32
  ![v203.toNat, 0]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c384_i32_26 : BitVec 32 := 384#32
  let v38 : BitVec 32 := Scalar.muli v10 c384_i32_26
  let c1_i32_95 : BitVec 32 := 1#32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v152 : BitVec 32 := Scalar.subi c1_i32_95 v8
  let c192_i32_96 : BitVec 32 := 192#32
  let v153 : BitVec 32 := Scalar.muli v152 c192_i32_96
  let v154 : BitVec 32 := Scalar.addi v38 v153
  let c384_i32_138 : BitVec 32 := 384#32
  ![v154.toNat, 384]
def k0_dev8 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_7 : BitVec 32 := 4#32
  let v12 : BitVec 32 := Scalar.muli v4 c4_i32_7
  let c4_i32 : BitVec 32 := 4#32
  let v3 : BitVec 32 := Scalar.remsi v2 c4_i32
  let c1_i32_8 : BitVec 32 := 1#32
  let v13 : BitVec 32 := Scalar.xori v3 c1_i32_8
  let v14 : BitVec 32 := Scalar.addi v12 v13
  let c1_i32_136 : BitVec 32 := 1#32
  let v210 : BitVec 32 := Scalar.muli v14 c1_i32_136
  let v211 : BitVec 32 := Scalar.addi c0_i32_137 v210
  v211.toNat
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c384_i32_26 : BitVec 32 := 384#32
  let v38 : BitVec 32 := Scalar.muli v10 c384_i32_26
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_27 : BitVec 32 := 192#32
  let v39 : BitVec 32 := Scalar.muli v8 c192_i32_27
  let v40 : BitVec 32 := Scalar.addi v38 v39
  let v218 : Index := Scalar.indexCast v40
  let c384_140 : Index := 384#32
  ![v218.toNat, 384]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_139 : BitVec 32 := 192#32
  let v217 : BitVec 32 := Scalar.muli v8 c192_i32_139
  let v220 : Index := Scalar.indexCast v217
  let c0_141 : Index := 0#32
  ![v220.toNat, 0]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c384_i32 : BitVec 32 := 384#32
  let v33 : BitVec 32 := Scalar.muli v8 c384_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32 : BitVec 32 := 192#32
  let v34 : BitVec 32 := Scalar.muli v10 c192_i32
  let v35 : BitVec 32 := Scalar.addi v33 v34
  let c1_i32_143 : BitVec 32 := 1#32
  let c4_i32_0 : BitVec 32 := 4#32
  let v4 : BitVec 32 := Scalar.divsi v2 c4_i32_0
  let c2_i32_6 : BitVec 32 := 2#32
  let v11 : BitVec 32 := Scalar.remsi v4 c2_i32_6
  let v227 : BitVec 32 := Scalar.subi c1_i32_143 v11
  let c96_i32_144 : BitVec 32 := 96#32
  let v228 : BitVec 32 := Scalar.muli v227 c96_i32_144
  let v229 : BitVec 32 := Scalar.addi v35 v228
  let v243 : Index := Scalar.indexCast v229
  let c0_158 : Index := 0#32
  ![v243.toNat, 0]
def k0_off24 (d0 : Dev nD) : Fin 2 → Nat :=
  let c1_i32_156 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let v241 : BitVec 32 := Scalar.subi c1_i32_156 v11
  let c96_i32_157 : BitVec 32 := 96#32
  let v242 : BitVec 32 := Scalar.muli v241 c96_i32_157
  let v245 : Index := Scalar.indexCast v242
  let c0_159 : Index := 0#32
  ![v245.toNat, 0]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c384_i32 : BitVec 32 := 384#32
  let v33 : BitVec 32 := Scalar.muli v8 c384_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32 : BitVec 32 := 192#32
  let v34 : BitVec 32 := Scalar.muli v10 c192_i32
  let v35 : BitVec 32 := Scalar.addi v33 v34
  let c1_i32_143 : BitVec 32 := 1#32
  let c4_i32_0 : BitVec 32 := 4#32
  let v4 : BitVec 32 := Scalar.divsi v2 c4_i32_0
  let c2_i32_6 : BitVec 32 := 2#32
  let v11 : BitVec 32 := Scalar.remsi v4 c2_i32_6
  let v227 : BitVec 32 := Scalar.subi c1_i32_143 v11
  let c96_i32_144 : BitVec 32 := 96#32
  let v228 : BitVec 32 := Scalar.muli v227 c96_i32_144
  let v229 : BitVec 32 := Scalar.addi v35 v228
  let c0_i32_165 : BitVec 32 := 0#32
  ![v229.toNat, 0]
def k0_dev9 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_10 : BitVec 32 := 1#32
  let v18 : BitVec 32 := Scalar.xori v4 c1_i32_10
  let c4_i32_11 : BitVec 32 := 4#32
  let v19 : BitVec 32 := Scalar.muli v18 c4_i32_11
  let c4_i32 : BitVec 32 := 4#32
  let v3 : BitVec 32 := Scalar.remsi v2 c4_i32
  let v20 : BitVec 32 := Scalar.addi v19 v3
  let c1_i32_163 : BitVec 32 := 1#32
  let v252 : BitVec 32 := Scalar.muli v20 c1_i32_163
  let v253 : BitVec 32 := Scalar.addi c0_i32_164 v252
  v253.toNat
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c384_i32 : BitVec 32 := 384#32
  let v33 : BitVec 32 := Scalar.muli v8 c384_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32 : BitVec 32 := 192#32
  let v34 : BitVec 32 := Scalar.muli v10 c192_i32
  let v35 : BitVec 32 := Scalar.addi v33 v34
  let c4_i32_0 : BitVec 32 := 4#32
  let v4 : BitVec 32 := Scalar.divsi v2 c4_i32_0
  let c2_i32_6 : BitVec 32 := 2#32
  let v11 : BitVec 32 := Scalar.remsi v4 c2_i32_6
  let c96_i32 : BitVec 32 := 96#32
  let v36 : BitVec 32 := Scalar.muli v11 c96_i32
  let v37 : BitVec 32 := Scalar.addi v35 v36
  let v260 : Index := Scalar.indexCast v37
  let c0_167 : Index := 0#32
  ![v260.toNat, 0]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c96_i32_166 : BitVec 32 := 96#32
  let v259 : BitVec 32 := Scalar.muli v11 c96_i32_166
  let v262 : Index := Scalar.indexCast v259
  let c0_168 : Index := 0#32
  ![v262.toNat, 0]
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c384_i32_26 : BitVec 32 := 384#32
  let v38 : BitVec 32 := Scalar.muli v10 c384_i32_26
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_27 : BitVec 32 := 192#32
  let v39 : BitVec 32 := Scalar.muli v8 c192_i32_27
  let v40 : BitVec 32 := Scalar.addi v38 v39
  let c1_i32_145 : BitVec 32 := 1#32
  let c4_i32_0 : BitVec 32 := 4#32
  let v4 : BitVec 32 := Scalar.divsi v2 c4_i32_0
  let c2_i32_6 : BitVec 32 := 2#32
  let v11 : BitVec 32 := Scalar.remsi v4 c2_i32_6
  let v230 : BitVec 32 := Scalar.subi c1_i32_145 v11
  let c96_i32_146 : BitVec 32 := 96#32
  let v231 : BitVec 32 := Scalar.muli v230 c96_i32_146
  let v232 : BitVec 32 := Scalar.addi v40 v231
  let v279 : Index := Scalar.indexCast v232
  let c384_181 : Index := 384#32
  ![v279.toNat, 384]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c384_i32_26 : BitVec 32 := 384#32
  let v38 : BitVec 32 := Scalar.muli v10 c384_i32_26
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_27 : BitVec 32 := 192#32
  let v39 : BitVec 32 := Scalar.muli v8 c192_i32_27
  let v40 : BitVec 32 := Scalar.addi v38 v39
  let c1_i32_145 : BitVec 32 := 1#32
  let c4_i32_0 : BitVec 32 := 4#32
  let v4 : BitVec 32 := Scalar.divsi v2 c4_i32_0
  let c2_i32_6 : BitVec 32 := 2#32
  let v11 : BitVec 32 := Scalar.remsi v4 c2_i32_6
  let v230 : BitVec 32 := Scalar.subi c1_i32_145 v11
  let c96_i32_146 : BitVec 32 := 96#32
  let v231 : BitVec 32 := Scalar.muli v230 c96_i32_146
  let v232 : BitVec 32 := Scalar.addi v40 v231
  let c384_i32_187 : BitVec 32 := 384#32
  ![v232.toNat, 384]
def k0_dev10 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_10 : BitVec 32 := 1#32
  let v18 : BitVec 32 := Scalar.xori v4 c1_i32_10
  let c4_i32_11 : BitVec 32 := 4#32
  let v19 : BitVec 32 := Scalar.muli v18 c4_i32_11
  let c4_i32 : BitVec 32 := 4#32
  let v3 : BitVec 32 := Scalar.remsi v2 c4_i32
  let v20 : BitVec 32 := Scalar.addi v19 v3
  let c1_i32_185 : BitVec 32 := 1#32
  let v288 : BitVec 32 := Scalar.muli v20 c1_i32_185
  let v289 : BitVec 32 := Scalar.addi c0_i32_186 v288
  v289.toNat
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c384_i32_26 : BitVec 32 := 384#32
  let v38 : BitVec 32 := Scalar.muli v10 c384_i32_26
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_27 : BitVec 32 := 192#32
  let v39 : BitVec 32 := Scalar.muli v8 c192_i32_27
  let v40 : BitVec 32 := Scalar.addi v38 v39
  let c4_i32_0 : BitVec 32 := 4#32
  let v4 : BitVec 32 := Scalar.divsi v2 c4_i32_0
  let c2_i32_6 : BitVec 32 := 2#32
  let v11 : BitVec 32 := Scalar.remsi v4 c2_i32_6
  let c96_i32_28 : BitVec 32 := 96#32
  let v41 : BitVec 32 := Scalar.muli v11 c96_i32_28
  let v42 : BitVec 32 := Scalar.addi v40 v41
  let v296 : Index := Scalar.indexCast v42
  let c384_189 : Index := 384#32
  ![v296.toNat, 384]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c384_i32 : BitVec 32 := 384#32
  let v33 : BitVec 32 := Scalar.muli v8 c384_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32 : BitVec 32 := 192#32
  let v34 : BitVec 32 := Scalar.muli v10 c192_i32
  let v35 : BitVec 32 := Scalar.addi v33 v34
  let c4_i32_0 : BitVec 32 := 4#32
  let v4 : BitVec 32 := Scalar.divsi v2 c4_i32_0
  let c2_i32_6 : BitVec 32 := 2#32
  let v11 : BitVec 32 := Scalar.remsi v4 c2_i32_6
  let c96_i32 : BitVec 32 := 96#32
  let v36 : BitVec 32 := Scalar.muli v11 c96_i32
  let v37 : BitVec 32 := Scalar.addi v35 v36
  let c0_i32_208 : BitVec 32 := 0#32
  ![v37.toNat, 0]
def k0_dev11 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_12 : BitVec 32 := 2#32
  let v21 : BitVec 32 := Scalar.xori v4 c2_i32_12
  let c4_i32_13 : BitVec 32 := 4#32
  let v22 : BitVec 32 := Scalar.muli v21 c4_i32_13
  let c4_i32 : BitVec 32 := 4#32
  let v3 : BitVec 32 := Scalar.remsi v2 c4_i32
  let v23 : BitVec 32 := Scalar.addi v22 v3
  let c1_i32_206 : BitVec 32 := 1#32
  let v321 : BitVec 32 := Scalar.muli v23 c1_i32_206
  let v322 : BitVec 32 := Scalar.addi c0_i32_207 v321
  v322.toNat
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c384_i32_26 : BitVec 32 := 384#32
  let v38 : BitVec 32 := Scalar.muli v10 c384_i32_26
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_27 : BitVec 32 := 192#32
  let v39 : BitVec 32 := Scalar.muli v8 c192_i32_27
  let v40 : BitVec 32 := Scalar.addi v38 v39
  let c4_i32_0 : BitVec 32 := 4#32
  let v4 : BitVec 32 := Scalar.divsi v2 c4_i32_0
  let c2_i32_6 : BitVec 32 := 2#32
  let v11 : BitVec 32 := Scalar.remsi v4 c2_i32_6
  let c96_i32_28 : BitVec 32 := 96#32
  let v41 : BitVec 32 := Scalar.muli v11 c96_i32_28
  let v42 : BitVec 32 := Scalar.addi v40 v41
  let c384_i32_225 : BitVec 32 := 384#32
  ![v42.toNat, 384]
def k0_dev12 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_12 : BitVec 32 := 2#32
  let v21 : BitVec 32 := Scalar.xori v4 c2_i32_12
  let c4_i32_13 : BitVec 32 := 4#32
  let v22 : BitVec 32 := Scalar.muli v21 c4_i32_13
  let c4_i32 : BitVec 32 := 4#32
  let v3 : BitVec 32 := Scalar.remsi v2 c4_i32
  let v23 : BitVec 32 := Scalar.addi v22 v3
  let c1_i32_223 : BitVec 32 := 1#32
  let v344 : BitVec 32 := Scalar.muli v23 c1_i32_223
  let v345 : BitVec 32 := Scalar.addi c0_i32_224 v344
  v345.toNat
def k0_dev13 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_10 : BitVec 32 := 1#32
  let v18 : BitVec 32 := Scalar.xori v4 c1_i32_10
  let c4_i32_11 : BitVec 32 := 4#32
  let v19 : BitVec 32 := Scalar.muli v18 c4_i32_11
  let c4_i32 : BitVec 32 := 4#32
  let v3 : BitVec 32 := Scalar.remsi v2 c4_i32
  let v20 : BitVec 32 := Scalar.addi v19 v3
  let c1_i32_240 : BitVec 32 := 1#32
  let v367 : BitVec 32 := Scalar.muli v20 c1_i32_240
  let v368 : BitVec 32 := Scalar.addi c0_i32_241 v367
  v368.toNat
def k0_dev14 (d0 : Dev nD) : Nat :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_10 : BitVec 32 := 1#32
  let v18 : BitVec 32 := Scalar.xori v4 c1_i32_10
  let c4_i32_11 : BitVec 32 := 4#32
  let v19 : BitVec 32 := Scalar.muli v18 c4_i32_11
  let c4_i32 : BitVec 32 := 4#32
  let v3 : BitVec 32 := Scalar.remsi v2 c4_i32
  let v20 : BitVec 32 := Scalar.addi v19 v3
  let c1_i32_258 : BitVec 32 := 1#32
  let v391 : BitVec 32 := Scalar.muli v20 c1_i32_258
  let v392 : BitVec 32 := Scalar.addi c0_i32_259 v391
  v392.toNat
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c384_i32 : BitVec 32 := 384#32
  let v33 : BitVec 32 := Scalar.muli v8 c384_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c192_i32 : BitVec 32 := 192#32
  let v34 : BitVec 32 := Scalar.muli v10 c192_i32
  let v35 : BitVec 32 := Scalar.addi v33 v34
  let c0_i32_276 : BitVec 32 := 0#32
  ![v35.toNat, 0]
def k0_dev15 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_9 : BitVec 32 := 4#32
  let v15 : BitVec 32 := Scalar.muli v4 c4_i32_9
  let c3_i32 : BitVec 32 := 3#32
  let c4_i32 : BitVec 32 := 4#32
  let v3 : BitVec 32 := Scalar.remsi v2 c4_i32
  let v16 : BitVec 32 := Scalar.subi c3_i32 v3
  let v17 : BitVec 32 := Scalar.addi v15 v16
  let c1_i32_274 : BitVec 32 := 1#32
  let v409 : BitVec 32 := Scalar.muli v17 c1_i32_274
  let v410 : BitVec 32 := Scalar.addi c0_i32_275 v409
  v410.toNat
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c384_i32_26 : BitVec 32 := 384#32
  let v38 : BitVec 32 := Scalar.muli v10 c384_i32_26
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c192_i32_27 : BitVec 32 := 192#32
  let v39 : BitVec 32 := Scalar.muli v8 c192_i32_27
  let v40 : BitVec 32 := Scalar.addi v38 v39
  let c384_i32_292 : BitVec 32 := 384#32
  ![v40.toNat, 384]
def k0_dev16 (d0 : Dev nD) : Nat :=
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_7 : BitVec 32 := 4#32
  let v12 : BitVec 32 := Scalar.muli v4 c4_i32_7
  let c4_i32 : BitVec 32 := 4#32
  let v3 : BitVec 32 := Scalar.remsi v2 c4_i32
  let c1_i32_8 : BitVec 32 := 1#32
  let v13 : BitVec 32 := Scalar.xori v3 c1_i32_8
  let v14 : BitVec 32 := Scalar.addi v12 v13
  let c1_i32_290 : BitVec 32 := 1#32
  let v427 : BitVec 32 := Scalar.muli v14 c1_i32_290
  let v428 : BitVec 32 := Scalar.addi c0_i32_291 v427
  v428.toNat
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c384_i32 : BitVec 32 := 384#32
  let v33 : BitVec 32 := Scalar.muli v8 c384_i32
  let c0_i32_308 : BitVec 32 := 0#32
  ![v33.toNat, 0]
def k0_dev17 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_7 : BitVec 32 := 4#32
  let v12 : BitVec 32 := Scalar.muli v4 c4_i32_7
  let c4_i32 : BitVec 32 := 4#32
  let v3 : BitVec 32 := Scalar.remsi v2 c4_i32
  let c1_i32_8 : BitVec 32 := 1#32
  let v13 : BitVec 32 := Scalar.xori v3 c1_i32_8
  let v14 : BitVec 32 := Scalar.addi v12 v13
  let c1_i32_306 : BitVec 32 := 1#32
  let v445 : BitVec 32 := Scalar.muli v14 c1_i32_306
  let v446 : BitVec 32 := Scalar.addi c0_i32_307 v445
  v446.toNat
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c384_i32_26 : BitVec 32 := 384#32
  let v38 : BitVec 32 := Scalar.muli v10 c384_i32_26
  let c384_i32_324 : BitVec 32 := 384#32
  ![v38.toNat, 384]
def k0_dev18 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_9 : BitVec 32 := 4#32
  let v15 : BitVec 32 := Scalar.muli v4 c4_i32_9
  let c3_i32 : BitVec 32 := 3#32
  let c4_i32 : BitVec 32 := 4#32
  let v3 : BitVec 32 := Scalar.remsi v2 c4_i32
  let v16 : BitVec 32 := Scalar.subi c3_i32 v3
  let v17 : BitVec 32 := Scalar.addi v15 v16
  let c1_i32_322 : BitVec 32 := 1#32
  let v463 : BitVec 32 := Scalar.muli v17 c1_i32_322
  let v464 : BitVec 32 := Scalar.addi c0_i32_323 v463
  v464.toNat
abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S768x768 : Shape := ⟨2, ![768, 768]⟩
abbrev S768x24576 : Shape := ⟨2, ![768, 24576]⟩
abbrev S24576x768 : Shape := ⟨2, ![24576, 768]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S768x768, .f32⟩
  | .hbm, ⟨1, _⟩ => ⟨S768x24576, .f32⟩
  | .hbm, ⟨2, _⟩ => ⟨S768x24576, .f32⟩
  | .hbm, ⟨3, _⟩ => ⟨S24576x768, .f32⟩
  | .hbm, ⟨4, _⟩ => ⟨S768x24576, .f32⟩
  | .hbm, ⟨5, _⟩ => ⟨S768x24576, .f32⟩
  | .hbm, ⟨6, _⟩ => ⟨S768x24576, .f32⟩
  | .hbm, ⟨7, _⟩ => ⟨S768x24576, .f32⟩
  | .hbm, ⟨8, _⟩ => ⟨S_, .f32⟩
  | .hbm, ⟨9, _⟩ => ⟨S768x24576, .f32⟩
  | .hbm, ⟨10, _⟩ => ⟨S768x24576, .f32⟩
  | .hbm, ⟨11, _⟩ => ⟨S768x24576, .f32⟩
  | .hbm, ⟨12, _⟩ => ⟨S768x24576, .f32⟩
  | .hbm, ⟨13, _⟩ => ⟨S768x768, .f32⟩
  | _, _ => ⟨S768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.KI.Mesh.lean ====
/-
# The mesh and the tiles

The sixteen devices are a cube of side two with four directions.  This file names, for a device, its partner
along each direction, the row offsets of the tiles it sends, keeps and receives, and proves which partner sees
which tile.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Partners -/

/-- The first direction's coordinate of a device. -/
def bx (c : Dev nD) : ℕ := if c.val % 4 = 1 ∨ c.val % 4 = 2 then 1 else 0
/-- The second direction's coordinate. -/
def by' (c : Dev nD) : ℕ := if 2 ≤ c.val % 4 then 1 else 0
/-- The third direction's coordinate. -/
def bz (c : Dev nD) : ℕ := c.val / 4 % 2

set_option backward.proofsInPublic true in
/-- The partner along the first direction. -/
def px (c : Dev nD) : Dev nD := ⟨(4 * (c.val / 4) + (c.val % 4 ^^^ 1)) % 16, Nat.mod_lt _ (by decide)⟩
set_option backward.proofsInPublic true in
/-- The partner along the second direction. -/
def py (c : Dev nD) : Dev nD := ⟨(4 * (c.val / 4) + (3 - c.val % 4)) % 16, Nat.mod_lt _ (by decide)⟩
set_option backward.proofsInPublic true in
/-- The partner along the third direction. -/
def pz (c : Dev nD) : Dev nD := ⟨(4 * (c.val / 4 ^^^ 1) + c.val % 4) % 16, Nat.mod_lt _ (by decide)⟩
set_option backward.proofsInPublic true in
/-- The partner along the fourth direction. -/
def pw (c : Dev nD) : Dev nD := ⟨(4 * (c.val / 4 ^^^ 2) + c.val % 4) % 16, Nat.mod_lt _ (by decide)⟩

theorem px_px : ∀ c, px (px c) = c := by decide
theorem py_py : ∀ c, py (py c) = c := by decide
theorem pz_pz : ∀ c, pz (pz c) = c := by decide
theorem pw_pw : ∀ c, pw (pw c) = c := by decide

/-- The four partners by number. -/
def prt (d : Fin 4) : Dev nD → Dev nD := match d with | 0 => px | 1 => py | 2 => pz | 3 => pw
theorem prt_prt : ∀ (d : Fin 4) (c : Dev nD), prt d (prt d c) = c := by decide

/-- The direction of transfer `k`: along which direction its destination lies. -/
def dirOf (k : Fin 14) : Fin 4 := ![0, 1, 1, 0, 2, 2, 3, 3, 2, 2, 1, 0, 0, 1] k
/-- The destination of transfer `k` from device `c`; the relation is symmetric. -/
def peer (k : Fin 14) (c : Dev nD) : Dev nD := prt (dirOf k) c
theorem peer_peer (k : Fin 14) (c : Dev nD) : peer k (peer k c) = c := prt_prt _ c

theorem sig1_eq : ∀ c : Dev nD, (⟨k0_dev1 c, k0_dev1_lt c⟩ : Dev nD) = prt 0 c := by decide +kernel
theorem sig2_eq : ∀ c : Dev nD, (⟨k0_dev2 c, k0_dev2_lt c⟩ : Dev nD) = prt 1 c := by decide +kernel
theorem sig3_eq : ∀ c : Dev nD, (⟨k0_dev3 c, k0_dev3_lt c⟩ : Dev nD) = prt 2 c := by decide +kernel
theorem sig4_eq : ∀ c : Dev nD, (⟨k0_dev4 c, k0_dev4_lt c⟩ : Dev nD) = prt 3 c := by decide +kernel
theorem dst0_eq : ∀ c : Dev nD, (⟨k0_dev5 c, k0_dev5_lt c⟩ : Dev nD) = peer 0 c := by decide +kernel
theorem dst1_eq : ∀ c : Dev nD, (⟨k0_dev6 c, k0_dev6_lt c⟩ : Dev nD) = peer 1 c := by decide +kernel
theorem dst2_eq : ∀ c : Dev nD, (⟨k0_dev7 c, k0_dev7_lt c⟩ : Dev nD) = peer 2 c := by decide +kernel
theorem dst3_eq : ∀ c : Dev nD, (⟨k0_dev8 c, k0_dev8_lt c⟩ : Dev nD) = peer 3 c := by decide +kernel
theorem dst4_eq : ∀ c : Dev nD, (⟨k0_dev9 c, k0_dev9_lt c⟩ : Dev nD) = peer 4 c := by decide +kernel
theorem dst5_eq : ∀ c : Dev nD, (⟨k0_dev10 c, k0_dev10_lt c⟩ : Dev nD) = peer 5 c := by decide +kernel
theorem dst6_eq : ∀ c : Dev nD, (⟨k0_dev11 c, k0_dev11_lt c⟩ : Dev nD) = peer 6 c := by decide +kernel
theorem dst7_eq : ∀ c : Dev nD, (⟨k0_dev12 c, k0_dev12_lt c⟩ : Dev nD) = peer 7 c := by decide +kernel
theorem dst8_eq : ∀ c : Dev nD, (⟨k0_dev13 c, k0_dev13_lt c⟩ : Dev nD) = peer 8 c := by decide +kernel
theorem dst9_eq : ∀ c : Dev nD, (⟨k0_dev14 c, k0_dev14_lt c⟩ : Dev nD) = peer 9 c := by decide +kernel
theorem dst10_eq : ∀ c : Dev nD, (⟨k0_dev15 c, k0_dev15_lt c⟩ : Dev nD) = peer 10 c := by decide +kernel
theorem dst11_eq : ∀ c : Dev nD, (⟨k0_dev16 c, k0_dev16_lt c⟩ : Dev nD) = peer 11 c := by decide +kernel
theorem dst12_eq : ∀ c : Dev nD, (⟨k0_dev17 c, k0_dev17_lt c⟩ : Dev nD) = peer 12 c := by decide +kernel
theorem dst13_eq : ∀ c : Dev nD, (⟨k0_dev18 c, k0_dev18_lt c⟩ : Dev nD) = peer 13 c := by decide +kernel

/-! ## Tiles: the rows kept (`a`, `b`) and the rows sent away (`sa`, `sb`) at each stage, for the two column halves -/

def a1 (c : Dev nD) : ℕ := 384 * bx c
def a2 (c : Dev nD) : ℕ := a1 c + 192 * by' c
def a3 (c : Dev nD) : ℕ := a2 c + 96 * bz c
def b1 (c : Dev nD) : ℕ := 384 * by' c
def b2 (c : Dev nD) : ℕ := b1 c + 192 * bx c
def b3 (c : Dev nD) : ℕ := b2 c + 96 * bz c
def sa1 (c : Dev nD) : ℕ := 384 * (1 - bx c)
def sa2 (c : Dev nD) : ℕ := a1 c + 192 * (1 - by' c)
def sa3 (c : Dev nD) : ℕ := a2 c + 96 * (1 - bz c)
def sb1 (c : Dev nD) : ℕ := 384 * (1 - by' c)
def sb2 (c : Dev nD) : ℕ := b1 c + 192 * (1 - bx c)
def sb3 (c : Dev nD) : ℕ := b2 c + 96 * (1 - bz c)

/-- `y` and `z` are the two halves, of `h` rows each, of the `2 h` rows from `x`, in one order or the other. -/
def Halves (x h y z : ℕ) : Prop := (y = x ∧ z = x + h) ∨ (y = x + h ∧ z = x)

instance (x h y z : ℕ) : Decidable (Halves x h y z) := by unfold Halves; infer_instance

theorem halves_a1 : ∀ c : Dev nD, Halves 0 384 (sa1 c) (a1 c) := by decide
theorem halves_a2 : ∀ c : Dev nD, Halves (a1 c) 192 (sa2 c) (a2 c) := by decide
theorem halves_a3 : ∀ c : Dev nD, Halves (a2 c) 96 (sa3 c) (a3 c) := by decide
theorem halves_b1 : ∀ c : Dev nD, Halves 0 384 (sb1 c) (b1 c) := by decide
theorem halves_b2 : ∀ c : Dev nD, Halves (b1 c) 192 (sb2 c) (b2 c) := by decide
theorem halves_b3 : ∀ c : Dev nD, Halves (b2 c) 96 (sb3 c) (b3 c) := by decide

/-! What a partner keeps is what this device sends, and the coarser tiles agree. -/

theorem a1_px : ∀ c, a1 (px c) = sa1 c := by decide
theorem a1_py : ∀ c, a1 (py c) = a1 c := by decide
theorem a1_pz : ∀ c, a1 (pz c) = a1 c := by decide
theorem a1_pw : ∀ c, a1 (pw c) = a1 c := by decide
theorem a2_py : ∀ c, a2 (py c) = sa2 c := by decide
theorem a2_pz : ∀ c, a2 (pz c) = a2 c := by decide
theorem a2_pw : ∀ c, a2 (pw c) = a2 c := by decide
theorem a3_pz : ∀ c, a3 (pz c) = sa3 c := by decide
theorem a3_pw : ∀ c, a3 (pw c) = a3 c := by decide
theorem b1_py : ∀ c, b1 (py c) = sb1 c := by decide
theorem b1_px : ∀ c, b1 (px c) = b1 c := by decide
theorem b1_pz : ∀ c, b1 (pz c) = b1 c := by decide
theorem b1_pw : ∀ c, b1 (pw c) = b1 c := by decide
theorem b2_px : ∀ c, b2 (px c) = sb2 c := by decide
theorem b2_pz : ∀ c, b2 (pz c) = b2 c := by decide
theorem b2_pw : ∀ c, b2 (pw c) = b2 c := by decide
theorem b3_pz : ∀ c, b3 (pz c) = sb3 c := by decide
theorem b3_pw : ∀ c, b3 (pw c) = b3 c := by decide
theorem sa1_px : ∀ c, sa1 (px c) = a1 c := by decide
theorem sa2_py : ∀ c, sa2 (py c) = a2 c := by decide
theorem sa3_pz : ∀ c, sa3 (pz c) = a3 c := by decide
theorem sb1_py : ∀ c, sb1 (py c) = b1 c := by decide
theorem sb2_px : ∀ c, sb2 (px c) = b2 c := by decide
theorem sb3_pz : ∀ c, sb3 (pz c) = b3 c := by decide

/-! ## The kernel's offsets -/

theorem off1 : ∀ c : Dev nD, k0_off1 c = ![sa1 c, 0] := by decide +kernel
theorem off2 : ∀ c : Dev nD, k0_off2 c = ![sa1 c, 0] := by decide +kernel
theorem off3 : ∀ c : Dev nD, k0_off3 c = ![sa1 c, 0] := by decide +kernel
theorem off4 : ∀ c : Dev nD, k0_off4 c = ![sa1 c, 0] := by decide +kernel
theorem off5 : ∀ c : Dev nD, k0_off5 c = ![a1 c, 0] := by decide +kernel
theorem off6 : ∀ c : Dev nD, k0_off6 c = ![a1 c, 0] := by decide +kernel
theorem off7 : ∀ c : Dev nD, k0_off7 c = ![sb1 c, 0] := by decide +kernel
theorem off8 : ∀ c : Dev nD, k0_off8 c = ![sb1 c, 384] := by decide +kernel
theorem off9 : ∀ c : Dev nD, k0_off9 c = ![sb1 c, 384] := by decide +kernel
theorem off10 : ∀ c : Dev nD, k0_off10 c = ![a1 c, 0] := by decide +kernel
theorem off11 : ∀ c : Dev nD, k0_off11 c = ![b1 c, 0] := by decide +kernel
theorem off12 : ∀ c : Dev nD, k0_off12 c = ![b1 c, 384] := by decide +kernel
theorem off13 : ∀ c : Dev nD, k0_off13 c = ![sa2 c, 0] := by decide +kernel
theorem off14 : ∀ c : Dev nD, k0_off14 c = ![192 * (1 - by' c), 0] := by decide +kernel
theorem off15 : ∀ c : Dev nD, k0_off15 c = ![sa2 c, 0] := by decide +kernel
theorem off16 : ∀ c : Dev nD, k0_off16 c = ![a2 c, 0] := by decide +kernel
theorem off17 : ∀ c : Dev nD, k0_off17 c = ![192 * by' c, 0] := by decide +kernel
theorem off18 : ∀ c : Dev nD, k0_off18 c = ![sb2 c, 384] := by decide +kernel
theorem off19 : ∀ c : Dev nD, k0_off19 c = ![192 * (1 - bx c), 0] := by decide +kernel
theorem off20 : ∀ c : Dev nD, k0_off20 c = ![sb2 c, 384] := by decide +kernel
theorem off21 : ∀ c : Dev nD, k0_off21 c = ![b2 c, 384] := by decide +kernel
theorem off22 : ∀ c : Dev nD, k0_off22 c = ![192 * bx c, 0] := by decide +kernel
theorem off23 : ∀ c : Dev nD, k0_off23 c = ![sa3 c, 0] := by decide +kernel
theorem off24 : ∀ c : Dev nD, k0_off24 c = ![96 * (1 - bz c), 0] := by decide +kernel
theorem off25 : ∀ c : Dev nD, k0_off25 c = ![sa3 c, 0] := by decide +kernel
theorem off26 : ∀ c : Dev nD, k0_off26 c = ![a3 c, 0] := by decide +kernel
theorem off27 : ∀ c : Dev nD, k0_off27 c = ![96 * bz c, 0] := by decide +kernel
theorem off28 : ∀ c : Dev nD, k0_off28 c = ![sb3 c, 384] := by decide +kernel
theorem off29 : ∀ c : Dev nD, k0_off29 c = ![sb3 c, 384] := by decide +kernel
theorem off30 : ∀ c : Dev nD, k0_off30 c = ![b3 c, 384] := by decide +kernel
theorem off31 : ∀ c : Dev nD, k0_off31 c = ![a3 c, 0] := by decide +kernel
theorem off32 : ∀ c : Dev nD, k0_off32 c = ![b3 c, 384] := by decide +kernel
theorem off33 : ∀ c : Dev nD, k0_off33 c = ![a2 c, 0] := by decide +kernel
theorem off34 : ∀ c : Dev nD, k0_off34 c = ![b2 c, 384] := by decide +kernel
theorem off35 : ∀ c : Dev nD, k0_off35 c = ![a1 c, 0] := by decide +kernel
theorem off36 : ∀ c : Dev nD, k0_off36 c = ![b1 c, 384] := by decide +kernel

/-! ## Boxes of a rank-two buffer, and contents read off a plane of values -/

/-- The indices with row in `[r, r + h)` and column in `[q, q + w)`. -/
def box {n m : ℕ} (r h q w : ℕ) : Finset (⟨2, ![n, m]⟩ : Shape).Idx :=
  Finset.univ.filter fun i => (r ≤ (i 0).val ∧ (i 0).val < r + h) ∧ (q ≤ (i 1).val ∧ (i 1).val < q + w)

theorem mem_box {n m r h q w : ℕ} {i : (⟨2, ![n, m]⟩ : Shape).Idx} :
    i ∈ box r h q w ↔ (r ≤ (i 0).val ∧ (i 0).val < r + h) ∧ (q ≤ (i 1).val ∧ (i 1).val < q + w) := by
  simp [box]

theorem unit_set {n m h w r q : ℕ} {off : Fin 2 → ℕ} (ho : off = ![r, q]) (inb) :
    (Rect.unit (s := ⟨2, ![n, m]⟩) off (⟨2, ![h, w]⟩ : Shape).size inb).set = box r h q w := by
  subst ho
  ext i
  rw [Rect.mem_set_unit, mem_box, Fin.forall_fin_two]
  rfl

theorem box_univ (n m : ℕ) : (box 0 n 0 m : Finset (⟨2, ![n, m]⟩ : Shape).Idx) = Finset.univ := by
  ext i
  rw [mem_box]
  have h0 := (i 0).isLt
  have h1 := (i 1).isLt
  simp only [Matrix.cons_val_zero, Matrix.cons_val_one] at h0 h1
  simp only [Finset.mem_univ, iff_true]
  omega

/-- The box of `2 h` rows is the disjoint union of its halves. -/
theorem box_halves {n m x h y z q w : ℕ} (H : Halves x h y z) :
    Disjoint (box y h q w : Finset (⟨2, ![n, m]⟩ : Shape).Idx) (box z h q w)
      ∧ (box x (2 * h) q w : Finset (⟨2, ![n, m]⟩ : Shape).Idx) = box y h q w ∪ box z h q w := by
  constructor
  · rw [Finset.disjoint_left]; intro i hi hj; rw [mem_box] at hi hj; rcases H with ⟨h1, h2⟩ | ⟨h1, h2⟩ <;> omega
  · ext i; rw [Finset.mem_union, mem_box, mem_box, mem_box]; rcases H with ⟨h1, h2⟩ | ⟨h1, h2⟩ <;> omega

/-- A box splits at a column. -/
theorem box_cols {n m r h q w w' : ℕ} :
    Disjoint (box r h q w : Finset (⟨2, ![n, m]⟩ : Shape).Idx) (box r h (q + w) w')
      ∧ (box r h q (w + w') : Finset (⟨2, ![n, m]⟩ : Shape).Idx) = box r h q w ∪ box r h (q + w) w' := by
  constructor
  · rw [Finset.disjoint_left]; intro i hi hj; rw [mem_box] at hi hj; omega
  · ext i; rw [Finset.mem_union, mem_box, mem_box, mem_box]; omega

/-- The `n × m` window of the plane `T` whose corner is at row `r`, column `q`. -/
def plane {α : Type} {n m : ℕ} (T : ℕ → ℕ → α) (r q : ℕ) : (⟨2, ![n, m]⟩ : Shape).Idx → α :=
  fun j => T (r + (j 0).val) (q + (j 1).val)

theorem unit_emb {n m h w r q : ℕ} {off : Fin 2 → ℕ} (ho : off = ![r, q]) (inb)
    (j : (⟨2, ![h, w]⟩ : Shape).Idx) :
    ((Rect.unit (s := ⟨2, ![n, m]⟩) off (⟨2, ![h, w]⟩ : Shape).size inb).emb j 0).val = r + (j 0).val
      ∧ ((Rect.unit (s := ⟨2, ![n, m]⟩) off (⟨2, ![h, w]⟩ : Shape).size inb).emb j 1).val = q + (j 1).val := by
  subst ho
  refine ⟨?_, ?_⟩
  · rw [Rect.emb_apply]; show r + 1 * (j 0).val = _; omega
  · rw [Rect.emb_apply]; show q + 1 * (j 1).val = _; omega

/-- A window of a window is a window. -/
theorem plane_emb {α : Type} {n m h w r q r' q' : ℕ} {off : Fin 2 → ℕ} (T : ℕ → ℕ → α) (ho : off = ![r, q]) (inb)
    (j : (⟨2, ![h, w]⟩ : Shape).Idx) :
    plane (n := n) (m := m) T r' q' ((Rect.unit (s := ⟨2, ![n, m]⟩) off (⟨2, ![h, w]⟩ : Shape).size inb).emb j)
      = plane (n := h) (m := w) T (r' + r) (q' + q) j := by
  unfold plane
  rw [(unit_emb ho inb j).1, (unit_emb ho inb j).2, Nat.add_assoc, Nat.add_assoc]

end Cert.KernelIdeal.Proto

end
-- ==== Proof.KI.Mem.lean ====
/-
# The loads and stores

Two memory rules the body's proof uses: a load through a rectangle of a whole buffer, at the value it reads, and
a store that fills the rectangle held, at the contents it leaves.
-/
module

public import proofs.«01_k».proof.Proof.KI.Mesh

@[expose] public section

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a program running on device `c`'s core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The core's VMEM buffer of index `i`. -/
abbrev vb (i : Fin (sig.nNear .tc .vmem)) (hi : sig.names .tc .vmem i = true) : Ref sig .tc := ⟨.vmem, i, hi⟩

/-- A load through a rectangle whose elements are held. -/
theorem wp_ld (c : Dev nD) (i : Fin (sig.nNear .tc .vmem)) (hi : sig.names .tc .vmem i = true) (r : Rect (vb i hi).ty.shape) {hl} {α : Type}
    {k : (r.shape.Idx → Elt F (vb i hi).ty.elt) → Prog (TpuEff nD τ sig (Elt F) Λ₀ .tc) α} {Q : α → sProp 𝕄}
    {S : Finset (Idx ((c : Thread nD τ).loc (vb i hi)))} {q : PosShare TreeShare} {f : Buf (Elt F) ((c : Thread nD τ).loc (vb i hi))}
    (hS : r.set ⊆ S) {v : r.shape.Idx → Elt F (vb i hi).ty.elt} (hv : (fun j => f (r.emb j)) = v) :
    (((c : Thread nD τ).loc (vb i hi)) ↦[S]{q} f : sProp 𝕄)
      ⊢ iprop(((((c : Thread nD τ).loc (vb i hi)) ↦[S]{q} f) -∗ wpc c (k v) Q)
        -∗ wpc c (.op (.load (Memref.whole (vb i hi)) r.toLoadRect hl) k) Q) := by
  subst hv
  exact wp_load_rect 𝒱₀ (c : Thread nD τ) none Set.univ (m := Memref.whole (vb i hi)) (r := r)
    (by rw [show ((Memref.whole (vb i hi)).access r).set = r.set from View.set_slice_whole _ _]; exact hS)

/-- A store through the rectangle whose elements are held. -/
theorem wp_st (c : Dev nD) (i : Fin (sig.nNear .tc .vmem)) (hi : sig.names .tc .vmem i = true) (r : Rect (vb i hi).ty.shape)
    {w : r.shape.Idx → Elt F (vb i hi).ty.elt} {hx hm} {α : Type}
    {k : PUnit → Prog (TpuEff nD τ sig (Elt F) Λ₀ .tc) α} {Q : α → sProp 𝕄}
    {S : Finset (Idx ((c : Thread nD τ).loc (vb i hi)))} {f : Buf (Elt F) ((c : Thread nD τ).loc (vb i hi))}
    (g : Buf (Elt F) ((c : Thread nD τ).loc (vb i hi))) (hS : r.set = S) (hg : (fun j => g (r.emb j)) = w) :
    (((c : Thread nD τ).loc (vb i hi)) ↦[S]{fullShare} f : sProp 𝕄)
      ⊢ iprop(((((c : Thread nD τ).loc (vb i hi)) ↦[S]{fullShare} g) -∗ wpc c (k ⟨⟩) Q)
        -∗ wpc c (.op (.store (Memref.whole (vb i hi)) r w Finset.univ hx hm) k) Q) := by
  subst hg
  have key : (((c : Thread nD τ).loc (vb i hi)) ↦[S]{fullShare} f : sProp 𝕄)
      ⊢ iprop(((((c : Thread nD τ).loc (vb i hi)) ↦[S]{fullShare}
          (((Memref.whole (vb i hi)).access r).write (Elt F) f (fun j => g (r.emb j)) Finset.univ)) -∗ wpc c (k ⟨⟩) Q)
        -∗ wpc c (.op (.store (Memref.whole (vb i hi)) r (fun j => g (r.emb j)) Finset.univ hx hm) k) Q) :=
    wp_store 𝒱₀ (c : Thread nD τ) none Set.univ (m := Memref.whole (vb i hi)) (r := r) (Mk := Finset.univ)
      (by rw [View.setOn_univ, show ((Memref.whole (vb i hi)).access r).set = r.set from View.set_slice_whole _ _]; exact hS.le)
  refine key.trans ?_
  refine wand_mono_left (wand_mono_left (Entails.of_eq (pointsTo_congr fun x hx => ?_)))
  obtain ⟨j, rfl⟩ : ∃ j, r.emb j = x := by
    rw [← hS, ← Rect.map_emb_univ] at hx; obtain ⟨j, -, hj⟩ := Finset.mem_map.mp hx; exact ⟨j, hj⟩
  exact (View.write_emb_of_mem (v := (Memref.whole (vb i hi)).access r) f (fun j => g (r.emb j)) (Finset.mem_univ j))

/-! ## Splitting and joining what is held of a buffer -/

section Split
variable {ℓ : Loc nD τ sig} {X Y Z : Finset (Idx ℓ)}

omit [FloatOps F] in
/-- What is held of a union of two disjoint sets is what is held of each. -/
theorem split_two (h : Disjoint Y Z ∧ X = Y ∪ Z) {q : PosShare TreeShare} {f : Buf (Elt F) ℓ} :
    (ℓ ↦[X]{q} f : sProp 𝕄) ⊣⊢ iprop((ℓ ↦[Y]{q} f) ∗ (ℓ ↦[Z]{q} f)) := by
  rw [h.2]; exact pointsTo_union h.1

omit [FloatOps F] in
/-- Two disjoint sets held, at contents of their own, are their union held at some contents. -/
theorem join_two (h : Disjoint Y Z ∧ X = Y ∪ Z) {f g : Buf (Elt F) ℓ} :
    iprop((ℓ ↦[Y]{fullShare} f : sProp 𝕄) ∗ (ℓ ↦[Z]{fullShare} g)) ⊢ iprop(∃ k, (ℓ ↦[X]{fullShare} k)) := by
  classical
  have hY : (ℓ ↦[Y]{fullShare} f : sProp 𝕄) = (ℓ ↦[Y]{fullShare} fun i => if i ∈ Y then f i else g i) :=
    pointsTo_congr fun i hi => (if_pos hi).symm
  have hZ : (ℓ ↦[Z]{fullShare} g : sProp 𝕄) = (ℓ ↦[Z]{fullShare} fun i => if i ∈ Y then f i else g i) :=
    pointsTo_congr fun i hi => (if_neg fun hy => Finset.disjoint_left.mp h.1 hy hi).symm
  rw [hY, hZ]
  iintro H
  iexists _
  iapply (split_two h).2
  iexact H

omit [FloatOps F] in
/-- The same where each piece is held at some contents. -/
theorem join_some (h : Disjoint Y Z ∧ X = Y ∪ Z) :
    iprop((∃ f, (ℓ ↦[Y]{fullShare} f : sProp 𝕄)) ∗ (∃ f, (ℓ ↦[Z]{fullShare} f))) ⊢ iprop(∃ k, (ℓ ↦[X]{fullShare} k)) := by
  iintro ⟨⟨%f, H1⟩, ⟨%g, H2⟩⟩
  iapply (join_two h)
  isplitl [H1] <;> iassumption

end Split

/-- The two column halves of a square buffer. -/
theorem univ_cols : Disjoint (box 0 768 0 384 : Finset (⟨2, ![768, 768]⟩ : Shape).Idx) (box 0 768 384 384)
    ∧ (Finset.univ : Finset (⟨2, ![768, 768]⟩ : Shape).Idx) = box 0 768 0 384 ∪ box 0 768 384 384 := by
  have h := box_cols (n := 768) (m := 768) (r := 0) (h := 768) (q := 0) (w := 384) (w' := 384)
  rw [← box_univ 768 768]
  exact h

end Cert.KernelIdeal.Proto

end
-- ==== Proof.KI.Vals.lean ====
/-
# What every buffer holds

The contents of the buffers as planes of values, one plane per device: the two-layer product a device computes, the
four partial sums it forms as it adds what its partners send, and the plane it ends with.  A store's value is matched
here with the plane it writes.
-/
module

public import proofs.«01_k».proof.Proof.KI.Mem
public import Idealize.ShloMosaic.Lib.Pointwise.Index
public import Idealize.ShloMosaic.Lib.Pipeline.Value

@[expose] public section

noncomputable section

namespace Cert.KernelIdeal.Proto

open Cert.KernelIdeal Cert.KernelIdeal.Gen
open Idealize.ShloMosaic
open Idealize.ShloMosaic.TcCoe

variable {F : FTy → Type} [FloatOps F]

/-! ## Planes -/

/-- A rank-two array as a plane of values, read at indices reduced into its bounds. -/
def toPlane {α : Type} {n m : ℕ} [NeZero n] [NeZero m] (f : (⟨2, ![n, m]⟩ : Shape).Idx → α) : ℕ → ℕ → α :=
  fun r q => f (ix2 (Fin.ofNat n r) (Fin.ofNat m q))

theorem plane_toPlane {α : Type} {n m : ℕ} [NeZero n] [NeZero m] (f : (⟨2, ![n, m]⟩ : Shape).Idx → α) :
    plane (n := n) (m := m) (toPlane f) 0 0 = f := by
  funext j
  have h0 : (j 0).val < n := (j 0).isLt
  have h1 : (j 1).val < m := (j 1).isLt
  unfold plane toPlane
  congr 1
  refine (congrArg₂ ix2 ?_ ?_).trans (eq_ix2 j).symm <;> (apply Fin.ext; simp [Fin.ofNat, Nat.mod_eq_of_lt, *])

/-- A plane made of blocks: `h × w` blocks, the one at block row `r`, block column `q` being `B r q`. -/
def tiled {α : Type} (h w : ℕ) [NeZero h] [NeZero w] (B : ℕ → ℕ → (⟨2, ![h, w]⟩ : Shape).Idx → α) : ℕ → ℕ → α :=
  fun r q => B (r / h) (q / w) (ix2 (Fin.ofNat h r) (Fin.ofNat w q))

/-- Its window over one block is that block. -/
theorem plane_tiled {α : Type} {h w : ℕ} [NeZero h] [NeZero w] (B : ℕ → ℕ → (⟨2, ![h, w]⟩ : Shape).Idx → α)
    (s t : ℕ) : plane (n := h) (m := w) (tiled h w B) (h * s) (w * t) = B s t := by
  funext j
  have h0 : (j 0).val < h := (j 0).isLt
  have h1 : (j 1).val < w := (j 1).isLt
  unfold plane tiled
  rw [Nat.mul_add_div (NeZero.pos h), Nat.mul_add_div (NeZero.pos w), Nat.div_eq_of_lt h0, Nat.div_eq_of_lt h1, Nat.add_zero,
    Nat.add_zero]
  congr 1
  refine (congrArg₂ ix2 ?_ ?_).trans (eq_ix2 j).symm <;> (apply Fin.ext; simp [Fin.ofNat, Nat.mul_add_mod, Nat.mod_eq_of_lt, *])

variable (m : (ℓ : Loc nD τ sig) → Buf (Elt F) ℓ)

/-! ## The staged operands and their casts -/

/-- The staged activations of device `c`. -/
def xS (c : Dev nD) : (cc0_stg0_0 : Ref sig .tc).ty.Contents (Elt F) :=
  (win0_0.blk (0 : Fin 1)).view.read (Elt F) (m ((c : Thread nD τ).loc main_arg0))
/-- Its block of the gate weights. -/
def gS (c : Dev nD) : (cc0_stg1_0 : Ref sig .tc).ty.Contents (Elt F) :=
  (win0_1.blk (0 : Fin 1)).view.read (Elt F) (m ((c : Thread nD τ).loc main_arg1))
/-- Its block of the up weights. -/
def uS (c : Dev nD) : (cc0_stg2_0 : Ref sig .tc).ty.Contents (Elt F) :=
  (win0_2.blk (0 : Fin 1)).view.read (Elt F) (m ((c : Thread nD τ).loc main_arg2))
/-- Its block of the down weights. -/
def dS (c : Dev nD) : (cc0_stg3_0 : Ref sig .tc).ty.Contents (Elt F) :=
  (win0_3.blk (0 : Fin 1)).view.read (Elt F) (m ((c : Thread nD τ).loc main_arg3))

/-- The activations, cast. -/
def xV (c : Dev nD) : Vec F S768x768 .bf16 := k0_pay1 (xS m c)
/-- The gate weights, cast. -/
def gV (c : Dev nD) : Vec F S768x1536 .bf16 := k0_pay2 (gS m c)
/-- The up weights, cast. -/
def uV (c : Dev nD) : Vec F S768x1536 .bf16 := k0_pay3 (uS m c)
/-- The down weights, cast. -/
def dV (c : Dev nD) : Vec F S1536x768 .bf16 := k0_pay4 (dS m c)

/-! ## The planes -/

/-- The hidden layer of device `c`, computed in two blocks of rows. -/
def hP (c : Dev nD) : ℕ → ℕ → F .bf16 :=
  tiled 384 1536 fun s _ => k0_pay5 (plane (toPlane (xV m c)) (384 * s) 0) (gV m c) (uV m c)

/-- Device `c`'s own contribution to the result, computed in four blocks. -/
def pP (c : Dev nD) : ℕ → ℕ → F .bf16 :=
  tiled 384 384 fun s t => k0_pay6 (plane (hP m c) (384 * s) 0) (plane (toPlane (dV m c)) 0 (384 * t))

/-- One exchange: every device adds its partner's plane to its own. -/
def red (p : Dev nD → Dev nD) (T : Dev nD → ℕ → ℕ → F .bf16) (c : Dev nD) : ℕ → ℕ → F .bf16 :=
  fun r q => FloatOps.addf (T c r q) (T (p c) r q)

/-- The planes of the left column half after the exchanges along the first, second, third and fourth direction. -/
def tA1 : Dev nD → ℕ → ℕ → F .bf16 := red px (pP m)
def tA2 : Dev nD → ℕ → ℕ → F .bf16 := red py (tA1 m)
def tA3 : Dev nD → ℕ → ℕ → F .bf16 := red pz (tA2 m)
def tA4 : Dev nD → ℕ → ℕ → F .bf16 := red pw (tA3 m)
/-- The planes of the right column half after the exchanges along the second, first, third and fourth direction. -/
def tB1 : Dev nD → ℕ → ℕ → F .bf16 := red py (pP m)
def tB2 : Dev nD → ℕ → ℕ → F .bf16 := red px (tB1 m)
def tB3 : Dev nD → ℕ → ℕ → F .bf16 := red pz (tB2 m)
def tB4 : Dev nD → ℕ → ℕ → F .bf16 := red pw (tB3 m)

/-! ## Who ends up with which rows -/

/-- The device with the four given coordinates. -/
def devOf (x y z w : ℕ) : Dev nD := Fin.ofNat 16 (8 * w + 4 * z + (if y = 1 then (if x = 1 then 2 else 3) else (if x = 1 then 1 else 0)))

/-- Among the devices that gather with `c`, the one that finishes row block `t` of the left half. -/
def ownA (c : Dev nD) (t : Fin 8) : Dev nD := devOf (t.val / 4) (t.val / 2 % 2) (t.val % 2) (c.val / 8)
/-- The same of the right half. -/
def ownB (c : Dev nD) (t : Fin 8) : Dev nD := devOf (t.val / 2 % 2) (t.val / 4) (t.val % 2) (c.val / 8)

theorem ownA_px : ∀ (c : Dev nD) t, ownA (px c) t = ownA c t := by decide +kernel
theorem ownA_py : ∀ (c : Dev nD) t, ownA (py c) t = ownA c t := by decide +kernel
theorem ownA_pz : ∀ (c : Dev nD) t, ownA (pz c) t = ownA c t := by decide +kernel
theorem ownB_px : ∀ (c : Dev nD) t, ownB (px c) t = ownB c t := by decide +kernel
theorem ownB_py : ∀ (c : Dev nD) t, ownB (py c) t = ownB c t := by decide +kernel
theorem ownB_pz : ∀ (c : Dev nD) t, ownB (pz c) t = ownB c t := by decide +kernel
theorem ownA_self : ∀ c : Dev nD, ownA c (Fin.ofNat 8 (a3 c / 96)) = c ∧ a3 c = 96 * (a3 c / 96) := by decide +kernel
theorem ownB_self : ∀ c : Dev nD, ownB c (Fin.ofNat 8 (b3 c / 96)) = c ∧ b3 c = 96 * (b3 c / 96) := by decide +kernel

/-- The gathered plane of the left half, as device `c` sees it. -/
def gA (c : Dev nD) : ℕ → ℕ → F .bf16 := fun r q => tA4 m (ownA c (Fin.ofNat 8 (r / 96))) r q
/-- The gathered plane of the right half. -/
def gB (c : Dev nD) : ℕ → ℕ → F .bf16 := fun r q => tB4 m (ownB c (Fin.ofNat 8 (r / 96))) r q

theorem gA_px (c : Dev nD) : gA m (px c) = gA m c := by unfold gA; simp only [ownA_px]
theorem gA_py (c : Dev nD) : gA m (py c) = gA m c := by unfold gA; simp only [ownA_py]
theorem gA_pz (c : Dev nD) : gA m (pz c) = gA m c := by unfold gA; simp only [ownA_pz]
theorem gB_px (c : Dev nD) : gB m (px c) = gB m c := by unfold gB; simp only [ownB_px]
theorem gB_py (c : Dev nD) : gB m (py c) = gB m c := by unfold gB; simp only [ownB_py]
theorem gB_pz (c : Dev nD) : gB m (pz c) = gB m c := by unfold gB; simp only [ownB_pz]

/-- On the rows a device finishes, the gathered plane is its last sum. -/
theorem gA_own (c : Dev nD) {n : ℕ} (q : ℕ) :
    plane (n := 96) (m := n) (gA m c) (a3 c) q = plane (tA4 m c) (a3 c) q := by
  funext j
  have h : (j 0).val < 96 := (j 0).isLt
  unfold plane gA
  have e : (a3 c + (j 0).val) / 96 = a3 c / 96 := by have := (ownA_self c).2; omega
  rw [e, (ownA_self c).1]
theorem gB_own (c : Dev nD) {n : ℕ} (q : ℕ) :
    plane (n := 96) (m := n) (gB m c) (b3 c) q = plane (tB4 m c) (b3 c) q := by
  funext j
  have h : (j 0).val < 96 := (j 0).isLt
  unfold plane gB
  have e : (b3 c + (j 0).val) / 96 = b3 c / 96 := by have := (ownB_self c).2; omega
  rw [e, (ownB_self c).1]

/-- The result of device `c`: the gathered planes, widened. -/
def oA (c : Dev nD) : ℕ → ℕ → F .f32 := fun r q => FloatOps.extf .f32 bitsLt_bf16_f32 (gA m c r q)
def oB (c : Dev nD) : ℕ → ℕ → F .f32 := fun r q => FloatOps.extf .f32 bitsLt_bf16_f32 (gB m c r q)
/-- The contents of the result buffer of device `c`. -/
def oV (c : Dev nD) : Vec F S768x768 .f32 := fun i => if (i 1).val < 384 then oA m c (i 0).val (i 1).val else oB m c (i 0).val (i 1).val

/-! ## What the stores write -/

theorem sa1_mul : ∀ c : Dev nD, sa1 c = 384 * (sa1 c / 384) := by decide
theorem a1_mul : ∀ c : Dev nD, a1 c = 384 * (a1 c / 384) := by decide
theorem sb1_mul : ∀ c : Dev nD, sb1 c = 384 * (sb1 c / 384) := by decide
theorem b1_mul : ∀ c : Dev nD, b1 c = 384 * (b1 c / 384) := by decide

theorem hP_block (c : Dev nD) {r : ℕ} (hr : r = 384 * (r / 384)) :
    plane (n := 384) (m := 1536) (hP m c) r 0 = k0_pay5 (plane (toPlane (xV m c)) r 0) (gV m c) (uV m c) := by
  have h := plane_tiled (fun s _ => k0_pay5 (plane (toPlane (xV m c)) (384 * s) 0) (gV m c) (uV m c)) (r / 384) 0
  rw [Nat.mul_zero, ← hr] at h
  exact h

theorem pP_block (c : Dev nD) {r q : ℕ} (hr : r = 384 * (r / 384)) (hq : q = 384 * (q / 384)) :
    plane (n := 384) (m := 384) (pP m c) r q = k0_pay6 (plane (hP m c) r 0) (plane (toPlane (dV m c)) 0 q) := by
  have h := plane_tiled (fun s t => k0_pay6 (plane (hP m c) (384 * s) 0) (plane (toPlane (dV m c)) 0 (384 * t))) (r / 384) (q / 384)
  rw [← hr, ← hq] at h
  exact h

theorem pay7_eq : (k0_pay7 (F := F)) = k0_pay5 := rfl
theorem pay8_eq : (k0_pay8 (F := F)) = k0_pay6 := rfl
theorem pay9_eq : (k0_pay9 (F := F)) = k0_pay6 := rfl
theorem pay10_eq : (k0_pay10 (F := F)) = k0_pay6 := rfl

/-- The sum of two windows is the window of the next plane. -/
theorem plane_red {h w : ℕ} (p : Dev nD → Dev nD) (T : Dev nD → ℕ → ℕ → F .bf16) (c : Dev nD) (r q : ℕ) :
    plane (n := h) (m := w) (red p T c) r q = addf (φ := .bf16) (plane (T c) r q) (plane (T (p c)) r q) := rfl

theorem pay11_eq (u v : Vec F S192x384 .bf16) : k0_pay11 u v = addf (φ := .bf16) u v := shapeCast_self _ _
theorem pay12_eq (u v : Vec F S192x384 .bf16) : k0_pay12 u v = addf (φ := .bf16) u v := shapeCast_self _ _
theorem pay13_eq (u v : Vec F S192x384 .bf16) : k0_pay13 u v = addf (φ := .bf16) u v := shapeCast_self _ _
theorem pay14_eq (u v : Vec F S192x384 .bf16) : k0_pay14 u v = addf (φ := .bf16) u v := shapeCast_self _ _
theorem pay15_eq (u v : Vec F S96x384 .bf16) : k0_pay15 u v = addf (φ := .bf16) u v := shapeCast_self _ _
theorem pay16_eq (u v : Vec F S96x384 .bf16) : k0_pay16 u v = addf (φ := .bf16) u v := rfl
theorem pay18_eq (u v : Vec F S96x384 .bf16) : k0_pay18 u v = addf (φ := .bf16) u v := shapeCast_self _ _
theorem pay19_eq (u v : Vec F S96x384 .bf16) : k0_pay19 u v = addf (φ := .bf16) u v := shapeCast_self _ _
theorem pay20_eq (u v : Vec F S96x384 .bf16) : k0_pay20 u v = addf (φ := .bf16) u v := shapeCast_self _ _
theorem pay21_eq (u v : Vec F S96x384 .bf16) : k0_pay21 u v = addf (φ := .bf16) u v := shapeCast_self _ _
theorem pay22_eq (u v : Vec F S96x384 .bf16) : k0_pay22 u v = addf (φ := .bf16) u v := shapeCast_self _ _
theorem pay23_eq (u v : Vec F S96x384 .bf16) : k0_pay23 u v = addf (φ := .bf16) u v := shapeCast_self _ _
theorem pay17_eq (u : Vec F S96x384 .bf16) : k0_pay17 u = u := shapeCast_self _ _

/-- The widened windows. -/
theorem pay24_eq (c : Dev nD) (r q : ℕ) : k0_pay24 (plane (gA m c) r q) = plane (oA m c) r q := rfl
theorem pay25_eq (c : Dev nD) (r q : ℕ) : k0_pay25 (plane (gB m c) r q) = plane (oB m c) r q := rfl
theorem pay26_eq (c : Dev nD) (r q : ℕ) : k0_pay26 (plane (gA m c) r q) = plane (oA m c) r q := rfl
theorem pay27_eq (c : Dev nD) (r q : ℕ) : k0_pay27 (plane (gB m c) r q) = plane (oB m c) r q := rfl

end Cert.KernelIdeal.Proto

end
-- ==== Proof.KI.Sched.lean ====
/-
# The cells, their schedule, and the rules of one transfer

Fourteen transfers and one four-way barrier per device.  Each transfer has a send cell on its device and a receive
cell on its partner, each used once; the barrier cell of a device takes one unit from each of its four partners.
The payloads say what a unit hands over: a partner's signal hands over the buffers that partner will receive into,
a send cell gives the source back, a receive cell gives the landed contents.
-/
module

public import proofs.«01_k».proof.Proof.KI.Vals

@[expose] public section

set_option maxRecDepth 8000

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells -/

/-- The barrier semaphore. -/
abbrev barS : Sem sig := (SemArray.scalar (sig.barrier 0 rfl) : Sems sig S_).sem
/-- Transfer `k`'s send semaphore. -/
def sendSem : Fin 14 → DmaSem sig := (![5, 6, 7, 8, 9, 10, 11, 12, 13, 14, 15, 16, 17, 18] : Fin 14 → Fin 33)
/-- Transfer `k`'s receive semaphore. -/
def recvSem : Fin 14 → DmaSem sig := (![19, 23, 20, 24, 21, 25, 22, 26, 27, 30, 28, 31, 29, 32] : Fin 14 → Fin 33)

/-- Which end of which transfer a DMA semaphore serves: `(false, k)` sends, `(true, k)` receives. -/
def kOf (s : DmaSem sig) : Option (Bool × Fin 14) :=
  (![none, none, none, none, none,
    some (false, 0), some (false, 1), some (false, 2), some (false, 3), some (false, 4), some (false, 5), some (false, 6),
    some (false, 7), some (false, 8), some (false, 9), some (false, 10), some (false, 11), some (false, 12), some (false, 13),
    some (true, 0), some (true, 2), some (true, 4), some (true, 6), some (true, 1), some (true, 3), some (true, 5), some (true, 7),
    some (true, 8), some (true, 10), some (true, 12), some (true, 9), some (true, 11), some (true, 13)] :
      Fin 33 → Option (Bool × Fin 14)) s

theorem kOf_send : ∀ k, kOf (sendSem k) = some (false, k) := by decide
theorem kOf_recv : ∀ k, kOf (recvSem k) = some (true, k) := by decide
theorem kOf_eq : ∀ s : DmaSem sig, ∀ b k, kOf s = some (b, k) → s = (if b then recvSem k else sendSem k) := by decide +kernel

abbrev barCell (c : Dev nD) : GSem nD τ sig := ((c : Thread nD τ), .reg barS)
abbrev sendCell (k : Fin 14) (c : Dev nD) : GSem nD τ sig := ((c : Thread nD τ), .dma (sendSem k))
abbrev recvCell (k : Fin 14) (c : Dev nD) : GSem nD τ sig := ((c : Thread nD τ), .dma (recvSem k))

/-- The scoped semaphores of the kernel's own, by transfer and end. -/
def osem (i : Bool × Fin 14) : SemLoc sig := .dma (if i.1 then recvSem i.2 else sendSem i.2)
/-- All its semaphores: the barrier's is `none`. -/
def csem : Option (Bool × Fin 14) → SemLoc sig
  | none => .reg barS
  | some i => osem i
/-- The cell of a semaphore on a device. -/
def kcell (ci : Dev nD × Option (Bool × Fin 14)) : GSem nD τ sig := ((ci.1 : Thread nD τ), csem ci.2)

/-! ## What is handed over -/

section Pay

/-- Elements `S` of buffer `b` of device `c`, holding `f`. -/
abbrev own (c : Dev nD) (b : Ref sig .tc) (S : Finset (Idx ((c : Thread nD τ).loc b))) (f : Buf (Elt F) ((c : Thread nD τ).loc b)) : sProp 𝕄 :=
  ((c : Thread nD τ).loc b) ↦[S]{fullShare} f
/-- The same at a half share: enough to read. -/
abbrev half (c : Dev nD) (b : Ref sig .tc) (S : Finset (Idx ((c : Thread nD τ).loc b))) (f : Buf (Elt F) ((c : Thread nD τ).loc b)) : sProp 𝕄 :=
  ((c : Thread nD τ).loc b) ↦[S]{fullShare.left} f
/-- The other half. -/
abbrev half' (c : Dev nD) (b : Ref sig .tc) (S : Finset (Idx ((c : Thread nD τ).loc b))) (f : Buf (Elt F) ((c : Thread nD τ).loc b)) : sProp 𝕄 :=
  ((c : Thread nD τ).loc b) ↦[S]{fullShare.right} f
/-- Elements `S` of buffer `b`, at contents not named. -/
abbrev any (c : Dev nD) (b : Ref sig .tc) (S : Finset (Idx ((c : Thread nD τ).loc b))) : sProp 𝕄 := iprop(∃ f, own (F := F) c b S f)

variable (m : (ℓ : Loc nD τ sig) → Buf (Elt F) ℓ)

/-- What transfer `k`'s send cell gives back on device `c`: the elements it read. -/
def sendPay (k : Fin 14) (c : Dev nD) : sProp 𝕄 := match k with
  | ⟨0, _⟩ => own c cc0_scratch0 (box (sa1 c) 384 0 384) (plane (pP m c) 0 0)
  | ⟨1, _⟩ => own c cc0_scratch0 (box (sb1 c) 384 384 384) (plane (pP m c) 0 0)
  | ⟨2, _⟩ => own c cc0_scratch0 (box (sa2 c) 192 0 384) (plane (tA1 m c) 0 0)
  | ⟨3, _⟩ => own c cc0_scratch0 (box (sb2 c) 192 384 384) (plane (tB1 m c) 0 0)
  | ⟨4, _⟩ => own c cc0_scratch0 (box (sa3 c) 96 0 384) (plane (tA2 m c) 0 0)
  | ⟨5, _⟩ => own c cc0_scratch0 (box (sb3 c) 96 384 384) (plane (tB2 m c) 0 0)
  | ⟨6, _⟩ => own c cc0_scratch0 (box (a3 c) 96 0 384) (plane (tA3 m c) 0 0)
  | ⟨7, _⟩ => own c cc0_scratch0 (box (b3 c) 96 384 384) (plane (tB3 m c) 0 0)
  | ⟨8, _⟩ => own c cc0_scratch14 (box (a3 c) 96 0 384) (plane (gA m c) 0 0)
  | ⟨9, _⟩ => own c cc0_scratch14 (box (b3 c) 96 384 384) (plane (gB m c) 0 0)
  | ⟨10, _⟩ => own c cc0_scratch14 (box (a2 c) 192 0 384) (plane (gA m c) 0 0)
  | ⟨11, _⟩ => own c cc0_scratch14 (box (b2 c) 192 384 384) (plane (gB m c) 0 0)
  | ⟨12, _⟩ => half c cc0_scratch14 (box (a1 c) 384 0 384) (plane (gA m c) 0 0)
  | ⟨_ + 13, _⟩ => half c cc0_scratch14 (box (b1 c) 384 384 384) (plane (gB m c) 0 0)

/-- What transfer `k`'s receive cell gives on device `c`: the elements its partner wrote, holding what was sent. -/
def recvPay (k : Fin 14) (c : Dev nD) : sProp 𝕄 := match k with
  | ⟨0, _⟩ => own c cc0_scratch6 Finset.univ (plane (pP m (px c)) (a1 c) 0)
  | ⟨1, _⟩ => own c cc0_scratch10 Finset.univ (plane (pP m (py c)) (b1 c) 384)
  | ⟨2, _⟩ => own c cc0_scratch7 Finset.univ (plane (tA1 m (py c)) (a2 c) 0)
  | ⟨3, _⟩ => own c cc0_scratch11 Finset.univ (plane (tB1 m (px c)) (b2 c) 384)
  | ⟨4, _⟩ => own c cc0_scratch8 Finset.univ (plane (tA2 m (pz c)) (a3 c) 0)
  | ⟨5, _⟩ => own c cc0_scratch12 Finset.univ (plane (tB2 m (pz c)) (b3 c) 384)
  | ⟨6, _⟩ => own c cc0_scratch9 Finset.univ (plane (tA3 m (pw c)) (a3 c) 0)
  | ⟨7, _⟩ => own c cc0_scratch13 Finset.univ (plane (tB3 m (pw c)) (b3 c) 384)
  | ⟨8, _⟩ => own c cc0_scratch14 (box (sa3 c) 96 0 384) (plane (gA m c) 0 0)
  | ⟨9, _⟩ => own c cc0_scratch14 (box (sb3 c) 96 384 384) (plane (gB m c) 0 0)
  | ⟨10, _⟩ => own c cc0_scratch14 (box (sa2 c) 192 0 384) (plane (gA m c) 0 0)
  | ⟨11, _⟩ => own c cc0_scratch14 (box (sb2 c) 192 384 384) (plane (gB m c) 0 0)
  | ⟨12, _⟩ => own c cc0_scratch14 (box (sa1 c) 384 0 384) (plane (gA m c) 0 0)
  | ⟨_ + 13, _⟩ => own c cc0_scratch14 (box (sb1 c) 384 384 384) (plane (gB m c) 0 0)

/-- The elements transfer `k` writes on device `c`, before it has. -/
def land (k : Fin 14) (c : Dev nD) : sProp 𝕄 := match k with
  | ⟨0, _⟩ => any (F := F) c cc0_scratch6 Finset.univ
  | ⟨1, _⟩ => any (F := F) c cc0_scratch10 Finset.univ
  | ⟨2, _⟩ => any (F := F) c cc0_scratch7 Finset.univ
  | ⟨3, _⟩ => any (F := F) c cc0_scratch11 Finset.univ
  | ⟨4, _⟩ => any (F := F) c cc0_scratch8 Finset.univ
  | ⟨5, _⟩ => any (F := F) c cc0_scratch12 Finset.univ
  | ⟨6, _⟩ => any (F := F) c cc0_scratch9 Finset.univ
  | ⟨7, _⟩ => any (F := F) c cc0_scratch13 Finset.univ
  | ⟨8, _⟩ => any (F := F) c cc0_scratch14 (box (sa3 c) 96 0 384)
  | ⟨9, _⟩ => any (F := F) c cc0_scratch14 (box (sb3 c) 96 384 384)
  | ⟨10, _⟩ => any (F := F) c cc0_scratch14 (box (sa2 c) 192 0 384)
  | ⟨11, _⟩ => any (F := F) c cc0_scratch14 (box (sb2 c) 192 384 384)
  | ⟨12, _⟩ => any (F := F) c cc0_scratch14 (box (sa1 c) 384 0 384)
  | ⟨_ + 13, _⟩ => any (F := F) c cc0_scratch14 (box (sb1 c) 384 384 384)

/-- What device `y`, signalling its partner in direction `d`, hands over: all it will receive from that partner. -/
def give (d : Fin 4) (y : Dev nD) : sProp 𝕄 := match d with
  | ⟨0, _⟩ => iprop(land (F := F) 0 y ∗ land (F := F) 3 y ∗ land (F := F) 11 y ∗ land (F := F) 12 y)
  | ⟨1, _⟩ => iprop(land (F := F) 1 y ∗ land (F := F) 2 y ∗ land (F := F) 10 y ∗ land (F := F) 13 y)
  | ⟨2, _⟩ => iprop(land (F := F) 4 y ∗ land (F := F) 5 y ∗ land (F := F) 8 y ∗ land (F := F) 9 y)
  | ⟨_ + 3, _⟩ => iprop(land (F := F) 6 y ∗ land (F := F) 7 y)

omit [FloatOps F] in
instance land_storable (k : Fin 14) (c : Dev nD) : BI.Storable (upEmb : UEmb _ 𝕄) (land (F := F) k c) := by
  unfold land; split <;> infer_instance
omit [FloatOps F] in
instance give_storable (d : Fin 4) (c : Dev nD) : BI.Storable (upEmb : UEmb _ 𝕄) (give (F := F) d c) := by
  unfold give; split <;> infer_instance
instance sendPay_storable (k : Fin 14) (c : Dev nD) : BI.Storable (upEmb : UEmb _ 𝕄) (sendPay m k c) := by
  unfold sendPay; split <;> infer_instance
instance recvPay_storable (k : Fin 14) (c : Dev nD) : BI.Storable (upEmb : UEmb _ 𝕄) (recvPay m k c) := by
  unfold recvPay; split <;> infer_instance

end Pay

/-! ## The schedule -/

/-- The credit of a transfer of `h` rows and 384 columns. -/
abbrev crd (h : ℕ) : ℕ := (cc0_scratch14 : Ref sig .tc).dmaCredit ⟨2, ![h, 384]⟩ .bf16
/-- The credit of transfer `k`. -/
def amt (k : Fin 14) : ℕ :=
  (![crd 384, crd 384, crd 192, crd 192, crd 96, crd 96, crd 96, crd 96, crd 96, crd 96, crd 192, crd 192, crd 384, crd 384] : Fin 14 → ℕ) k
theorem amt_pos : ∀ k, 0 < amt k := by decide

section Rd
variable (m : (ℓ : Loc nD τ sig) → Buf (Elt F) ℓ)

/-- One round.  A barrier cell takes one unit of each partner; a DMA cell the credit of its transfer. -/
def rd : Rounds.Schedule (GSem nD τ sig) (Fin 4) 𝕄 where
  duties g r := if r = 0 ∧ g.1.2 = .tc then
      (match g.2 with | .reg _ => Finset.univ | .dma s => if (kOf s).isSome then {0} else ∅) else ∅
  unitless _ := False
  amount g _ _ := match g.2 with
    | .reg _ => 1
    | .dma s => match kOf s with | none => 1 | some i => amt i.2
  payload g _ d := match g.2 with
    | .reg _ => give d (prt d g.1.1)
    | .dma s => match kOf s with
      | none => iprop(emp)
      | some (false, k) => sendPay m k g.1.1
      | some (true, k) => recvPay m k g.1.1
  amount_pos g _ _ _ := by
    split
    · exact Nat.one_pos
    · split
      · exact Nat.one_pos
      · exact amt_pos _

instance rd_storable (g : GSem nD τ sig) (r : ℕ) (d : Fin 4) :
    BI.Storable (upEmb : UEmb _ 𝕄) ((rd (F := F) m).payload g r d) := by
  dsimp only [rd]
  split
  · infer_instance
  · split <;> infer_instance

variable (c : Dev nD) (k : Fin 14)

theorem duties_bar : (rd (F := F) m).duties (barCell c) 0 = Finset.univ := by dsimp only [rd]; rw [if_pos ⟨rfl, rfl⟩]
theorem duties_send : (rd (F := F) m).duties (sendCell k c) 0 = {0} := by
  dsimp only [rd]; rw [if_pos ⟨rfl, rfl⟩, kOf_send]; rfl
theorem duties_recv : (rd (F := F) m).duties (recvCell k c) 0 = {0} := by
  dsimp only [rd]; rw [if_pos ⟨rfl, rfl⟩, kOf_recv]; rfl
theorem duties_later (g : GSem nD τ sig) : ∀ r, 1 ≤ r → (rd (F := F) m).duties g r = ∅ :=
  fun r hr => by dsimp only [rd]; rw [if_neg fun h => by omega]
theorem amount_bar (d : Fin 4) : (rd (F := F) m).amount (barCell c) 0 d = 1 := rfl
theorem amount_send (d : Fin 4) : (rd (F := F) m).amount (sendCell k c) 0 d = amt k := by dsimp only [rd]; rw [kOf_send]
theorem amount_recv (d : Fin 4) : (rd (F := F) m).amount (recvCell k c) 0 d = amt k := by dsimp only [rd]; rw [kOf_recv]
theorem expect_bar : (rd (F := F) m).expect (barCell c) 0 = 4 := by
  unfold Schedule.expect Schedule.amountOf; rw [duties_bar]; rfl
theorem expect_send : (rd (F := F) m).expect (sendCell k c) 0 = amt k := by
  unfold Schedule.expect Schedule.amountOf; rw [duties_send, Finset.sum_singleton, amount_send]
theorem expect_recv : (rd (F := F) m).expect (recvCell k c) 0 = amt k := by
  unfold Schedule.expect Schedule.amountOf; rw [duties_recv, Finset.sum_singleton, amount_recv]
theorem payload_bar (d : Fin 4) : (rd (F := F) m).payload (barCell c) 0 d = give d (prt d c) := rfl
theorem payload_send (d : Fin 4) : (rd (F := F) m).payload (sendCell k c) 0 d = sendPay m k c := by dsimp only [rd]; rw [kOf_send]
theorem payload_recv (d : Fin 4) : (rd (F := F) m).payload (recvCell k c) 0 d = recvPay m k c := by dsimp only [rd]; rw [kOf_recv]
theorem rest_bar : bigSep ((rd (F := F) m).duties (barCell c) 0 \ ∅) (fun d => (rd (F := F) m).payload (barCell c) 0 d)
    = iprop(give (F := F) 0 (px c) ∗ give (F := F) 1 (py c) ∗ give (F := F) 2 (pz c) ∗ give (F := F) 3 (pw c)) := by
  rw [Finset.sdiff_empty, duties_bar]
  exact bigSep_univ_eq_bigSepL [(0 : Fin 4), 1, 2, 3] (by decide) (by decide) _
theorem rest_send : bigSep ((rd (F := F) m).duties (sendCell k c) 0 \ ∅) (fun d => (rd (F := F) m).payload (sendCell k c) 0 d) = sendPay m k c := by
  rw [Finset.sdiff_empty, duties_send, bigSep_singleton, payload_send]
theorem rest_recv : bigSep ((rd (F := F) m).duties (recvCell k c) 0 \ ∅) (fun d => (rd (F := F) m).payload (recvCell k c) 0 d) = recvPay m k c := by
  rw [Finset.sdiff_empty, duties_recv, bigSep_singleton, payload_recv]

end Rd

/-! ## What is owed, and the levels -/

/-- What device `c` owes its partners' receive cells from transfer `n` on. -/
def owR (c : Dev nD) (n : ℕ) : CellTallies nD τ sig Unit :=
  ∑ k ∈ Finset.univ.filter (fun k : Fin 14 => n ≤ k.val), tallyAt (recvCell k (peer k c)) () (amt k)
/-- All of that, and what it owes its partners' barrier cells from direction `n` on. -/
def owB (c : Dev nD) (n : ℕ) : CellTallies nD τ sig Unit :=
  owR c 0 + ∑ d ∈ Finset.univ.filter (fun d : Fin 4 => n ≤ d.val), tallyAt (barCell (prt d c)) () 1
/-- What it owes at launch. -/
def O₀ (c : Dev nD) : CellTallies nD τ sig Unit := owB c 0

theorem from_insert {N : ℕ} (k : Fin N) :
    (Finset.univ.filter fun i : Fin N => k.val ≤ i.val) = insert k (Finset.univ.filter fun i : Fin N => k.val + 1 ≤ i.val) := by
  ext i
  simp only [Finset.mem_filter, Finset.mem_univ, true_and, Finset.mem_insert, Fin.ext_iff]
  omega

theorem owR_step (c : Dev nD) (k : Fin 14) : owR c k.val = owR c (k.val + 1) + tallyAt (recvCell k (peer k c)) () (amt k) := by
  unfold owR
  rw [from_insert k, Finset.sum_insert (by simp), add_comm]
theorem owB_step (c : Dev nD) (d : Fin 4) : owB c d.val = owB c (d.val + 1) + tallyAt (barCell (prt d c)) () 1 := by
  unfold owB
  rw [from_insert d, Finset.sum_insert (by simp), add_comm (tallyAt _ _ _), ← add_assoc]
theorem owR_end (c : Dev nD) : owR c 14 = 0 := by
  unfold owR; rw [show (Finset.univ.filter fun k : Fin 14 => 14 ≤ k.val) = ∅ from by decide, Finset.sum_empty]
theorem owB_end (c : Dev nD) : owB c 4 = owR c 0 := by
  unfold owB; rw [show (Finset.univ.filter fun k : Fin 4 => 4 ≤ k.val) = ∅ from by decide, Finset.sum_empty, add_zero]

theorem sum_tally_pos {I : Type} {S : Finset I} {t : I → CellTallies nD τ sig Unit} {g : GSem nD τ sig} {u : Unit}
    (h : 0 < (∑ i ∈ S, t i) g u) : ∃ i ∈ S, 0 < t i g u := by
  classical
  by_contra hn
  push Not at hn
  have h0 : (∑ i ∈ S, t i) g u = 0 := by
    rw [Finset.sum_apply, Finsupp.finset_sum_apply]
    exact Finset.sum_eq_zero fun i hi => Nat.le_zero.mp (hn i hi)
  omega
theorem tally_pos {g g' : GSem nD τ sig} {u u' : Unit} {n : ℕ} (h : 0 < (tallyAt g' u' n : CellTallies nD τ sig Unit) g u) : g = g' := by
  rw [tallyAt_apply] at h
  by_contra hn
  rw [if_neg fun h' => hn h'.1] at h
  exact Nat.lt_irrefl 0 h

theorem owR_pos {c : Dev nD} {n : ℕ} {g : GSem nD τ sig} {u : Unit} (h : 0 < owR c n g u) :
    ∃ k : Fin 14, n ≤ k.val ∧ g = recvCell k (peer k c) := by
  obtain ⟨k, hk, h⟩ := sum_tally_pos h
  exact ⟨k, (Finset.mem_filter.mp hk).2, tally_pos h⟩
theorem owB_pos {c : Dev nD} {n : ℕ} {g : GSem nD τ sig} {u : Unit} (h : 0 < owB c n g u) :
    (∃ k : Fin 14, g = recvCell k (peer k c)) ∨ ∃ d : Fin 4, g = barCell (prt d c) := by
  unfold owB at h
  rw [Pi.add_apply, Finsupp.add_apply] at h
  rcases Nat.lt_or_ge 0 (owR c 0 g u) with h1 | h1
  · obtain ⟨k, -, hk⟩ := owR_pos h1; exact Or.inl ⟨k, hk⟩
  · have h2 : 0 < (∑ d ∈ Finset.univ.filter (fun d : Fin 4 => n ≤ d.val), (tallyAt (barCell (prt d c)) () 1 : CellTallies nD τ sig Unit)) g u := by
      omega
    obtain ⟨d, -, hd⟩ := sum_tally_pos h2
    exact Or.inr ⟨d, tally_pos hd⟩

def L (g : GSem nD τ sig) : Finset Unit := if g.1.2 = .tc then {()} else ∅
/-- Send and staging cells at 0, barrier cells at 1, transfer `k`'s receive cell at `2 + k`. -/
def lv (g : GSem nD τ sig) (_ : Unit) : ℕ := match g.2 with
  | .reg _ => 1
  | .dma s => match kOf s with | some (true, k) => 2 + k.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_send (k : Fin 14) (c : Dev nD) : lv (sendCell k c) () = 0 := by dsimp only [lv]; rw [kOf_send]
theorem lv_recv (k : Fin 14) (c : Dev nD) : lv (recvCell k c) () = 2 + k.val := by dsimp only [lv]; rw [kOf_recv]

omit [FloatOps F] in
/-- A wait on a cell strictly below every cell owed to. -/
theorem mayWait (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rw [L, if_pos (h g u hg).1]; exact Finset.mem_singleton_self _)
    (fun p hp => by rw [Finset.mem_singleton.mp hp])
    (fun g u hg => (h g u hg).2)

omit [FloatOps F] in
theorem mayWait_R (c : Dev nD) (sm : SemLoc sig) (n : ℕ) (h : lv ((c : Thread nD τ), sm) () < 2 + n) :
    (levAts L lv : sProp 𝕄) ⊢ MayWait (c : Thread nD τ) sm () (owR c n) :=
  mayWait c sm _ fun g u hg => by
    obtain ⟨k, hk, rfl⟩ := owR_pos hg
    refine ⟨rfl, ?_⟩
    rw [lv_recv]; omega

theorem below_bar (c : Dev nD) : lv (barCell c) () < 2 + 0 := (lv_bar c).trans_lt (by decide)
theorem below_send (k : Fin 14) (c : Dev nD) (n : ℕ) : lv (sendCell k c) () < 2 + n := (lv_send k c).trans_lt (by omega)
theorem below_recv (k : Fin 14) (c : Dev nD) {n : ℕ} (h : k.val < n) : lv (recvCell k c) () < 2 + n :=
  (lv_recv k c).trans_lt (by omega)

omit [FloatOps F] in
theorem mayWait_stage (c : Dev nD) (q : DmaSem sig) (hq : kOf q = none) (O : CellTallies nD τ sig Unit) (hO : O = O₀ c ∨ O = 0) :
    (levAts L lv : sProp 𝕄) ⊢ MayWait (c : Thread nD τ) (.dma q) () O := by
  have h0 : lv ((c : Thread nD τ), .dma q) () = 0 := by dsimp only [lv]; rw [hq]
  rcases hO with rfl | rfl
  · refine mayWait c _ _ fun g u hg => ?_
    rw [h0]
    rcases owB_pos hg with ⟨k, rfl⟩ | ⟨d, rfl⟩
    · exact ⟨rfl, by rw [lv_recv]; omega⟩
    · exact ⟨rfl, by rw [lv_bar]; omega⟩
  · rw [MayWait_zero]; iintro -; iempintro

/-! ## The shared records -/

section Rules
variable (m : (ℓ : Loc nD τ sig) → Buf (Elt F) ℓ)

/-- Every cell's invariant, under the name `K` gives it, every cell's round 0 reached, and the levels. -/
def env (K : Dev nD × Option (Bool × Fin 14) → ℕ) : sProp 𝕄 :=
  iprop(((bigSep Finset.univ fun ci => cellInv ER (rd m) (K ci) (kcell ci)) ∗ bigSep Finset.univ fun ci => reached ER (kcell ci) 0) ∗ (levAts L lv : sProp 𝕄))

instance env_persistent (K) : BI.Persistent (env m K) := by unfold env; infer_instance

variable (K : Dev nD × Option (Bool × Fin 14) → ℕ)

theorem env_inv (ci) : env m K ⊢ cellInv ER (rd m) (K ci) (kcell ci) := by
  unfold env
  have h : (bigSep Finset.univ fun ci : Dev nD × Option (Bool × Fin 14) => (cellInv ER (rd m) (K ci) (kcell ci) : sProp 𝕄))
      ⊢ cellInv ER (rd m) (K ci) (kcell ci) := bigSep_elim (Finset.mem_univ ci)
  iintro ⟨⟨H, -⟩, -⟩
  iapply h; iexact H
theorem env_reached (ci) : env m K ⊢ reached ER (kcell ci) 0 := by
  unfold env
  have h : (bigSep Finset.univ fun ci : Dev nD × Option (Bool × Fin 14) => (reached ER (kcell ci) 0 : sProp 𝕄))
      ⊢ reached ER (kcell ci) 0 := bigSep_elim (Finset.mem_univ ci)
  iintro ⟨⟨-, H⟩, -⟩
  iapply h; iexact H
theorem env_lev : env m K ⊢ (levAts L lv : sProp 𝕄) := by
  unfold env
  iintro ⟨-, H⟩
  iexact H

/-- What device `c` holds for transfer `k` before it starts it. -/
def tk (k : Fin 14) (c : Dev nD) : sProp 𝕄 :=
  iprop(dutyTok ER (sendCell k c) 0 0 ∗ dutyTok ER (recvCell k (peer k c)) 0 0
    ∗ atPos ER (sendCell k c) 0 ∅ 0 ∗ atPos ER (recvCell k c) 0 ∅ 0 ∗ cred (tallyAt (recvCell k c) () (amt k)))
/-- After the start. -/
def md (k : Fin 14) (c : Dev nD) : sProp 𝕄 :=
  iprop(cred (tallyAt (sendCell k c) () (amt k))
    ∗ atPos ER (sendCell k c) 0 ∅ 0 ∗ atPos ER (recvCell k c) 0 ∅ 0 ∗ cred (tallyAt (recvCell k c) () (amt k)))
/-- After the wait on the send cell. -/
def mr (k : Fin 14) (c : Dev nD) : sProp 𝕄 :=
  iprop(atPos ER (sendCell k c) (0 + 1) ∅ 0 ∗ atPos ER (recvCell k c) 0 ∅ 0 ∗ cred (tallyAt (recvCell k c) () (amt k)))
/-- After both waits. -/
def dn (k : Fin 14) (c : Dev nD) : sProp 𝕄 :=
  iprop(atPos ER (sendCell k c) (0 + 1) ∅ 0 ∗ atPos ER (recvCell k c) (0 + 1) ∅ 0)
/-- What `c` owes from transfer `n` on, whatever it has waited on. -/
def ow (c : Dev nD) (n : ℕ) : sProp 𝕄 := iprop(∃ W, owes (c : Thread nD τ) (owR c n) W)
/-- The same with barrier signals from direction `n` on still to send. -/
def owb (c : Dev nD) (n : ℕ) : sProp 𝕄 := iprop(∃ W, owes (c : Thread nD τ) (owB c n) W)

/-- The signal in direction `d`. -/
theorem wp_sig {α : Type} (d : Fin 4) (c n : Dev nD) (hn : n = prt d c) {i : ℕ} (hi : i = 1)
    {kt : PUnit → Prog (TpuEff nD τ sig (Elt F) Λ₀ .tc) α} {Q : α → sProp 𝕄} :
    iprop(env m K ∗ dutyTok ER (barCell (prt d c)) 0 d ∗ give (F := F) d c ∗ owb (F := F) c d.val)
      ⊢ iprop((owb (F := F) c (d.val + 1) -∗ wpc c (kt ⟨⟩) Q) -∗ wpc c (.op (.semSignal (Dev.tc n : Thread nD τ) barS i) kt) Q) := by
  subst hn hi
  unfold owb
  iintro ⟨#HE, Ht, Hg, %W, HO⟩ Hk
  iapply (Rounds.wp_signal 𝒱₀ ER (rd m) (c : Thread nD τ) none (dst := (prt d c : Thread nD τ)) (κ := K (prt d c, none))
    (d := d) (by rw [duties_bar]; exact Finset.mem_univ _) (amount_bar m (prt d c) d) () (owB c (d.val + 1)) (owB_step c d))
    $$ [Ht Hg HO]
  · isplitr; · iapply (env_inv m K (prt d c, none)); iexact HE
    isplitl [HO]; · iexact HO
    isplitl [Ht]; · iexact Ht
    isplitl [Hg]; · rw [payload_bar, prt_prt]; iexact Hg
    iapply (env_reached m K (prt d c, none)); iexact HE
  iintro HO
  iapply Hk
  iexists W; iexact HO

/-- The wait for the four signals. -/
theorem wp_bar {α : Type} (c : Dev nD) {i : ℕ} (hi : i = 4) {kt : PUnit → Prog (TpuEff nD τ sig (Elt F) Λ₀ .tc) α} {Q : α → sProp 𝕄} :
    iprop(env m K ∗ cred (tallyAt (barCell c) () 4) ∗ atPos ER (barCell c) 0 ∅ 0 ∗ owb (F := F) c 4)
      ⊢ iprop((iprop(ow (F := F) c 0 ∗ atPos ER (barCell c) (0 + 1) ∅ 0 ∗ give (F := F) 0 (px c) ∗ give (F := F) 1 (py c)
            ∗ give (F := F) 2 (pz c) ∗ give (F := F) 3 (pw c)) -∗ wpc c (kt ⟨⟩) Q)
          -∗ wpc c (.op (.semWait barS i) kt) Q) := by
  subst hi
  unfold owb ow
  rw [owB_end]
  iintro ⟨#HE, Hc, Hat, %W, HO⟩ Hk
  iapply (Rounds.wp_wait_rest_token 𝒱₀ ER (rd m) (c : Thread nD τ) none (κ := K (c, none))
      (wpE_semWait_eq 𝒱₀ (c : Thread nD τ) none Set.univ) (Set.mem_univ _) () (O := owR c 0) (W := W) (R := 0) (m := 0) (T := ∅)
      (by rw [expect_bar])) $$ [Hc HO Hat]
  · isplitr; · iapply (env_inv m K (c, none)); iexact HE
    isplitl [Hc]; · iexact Hc
    isplitl [HO]; · iexact HO
    isplitr; · iapply (mayWait_R c (.reg barS) 0 (by rw [lv_bar]; omega)); iapply (env_lev m K); iexact HE
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-- The start of transfer `k`. -/
theorem wp_start {α : Type} (k : Fin 14) (c n : Dev nD) (hn : n = peer k c) {s : Shape}
    {src : Memref sig .tc .vmem s .bf16} {dst : Memref sig (Dev.tc n : Thread nD τ).2.kind .vmem s .bf16}
    {sS sR : DmaSem sig} (hS : sS = sendSem k) (hR : sR = recvSem k)
    {hsc : dst.view.ref.isScScratch = false} {hsrc : src.view.WordExact} {hdst : dst.view.WordExact}
    {hsem : DmaTarget.Typed .vmem (.dma sR) (.remote (Dev.tc n : Thread nD τ) dst (.dma sS) hsc)}
    {kt : PUnit → Prog (TpuEff nD τ sig (Elt F) Λ₀ .tc) α} {Q : α → sProp 𝕄} {q : PosShare TreeShare}
    {fs : Buf (Elt F) (src.view.loc (c : Thread nD τ))} {fd : Buf (Elt F) (dst.view.loc (Dev.tc n : Thread nD τ))}
    (hN : dst.view.amount (.dma sR) = amt k)
    (h1 : ((src.view.loc (c : Thread nD τ)) ↦[src.view.set]{q} fs : sProp 𝕄) ⊢ sendPay m k c)
    (h2 : ((dst.view.loc (Dev.tc n : Thread nD τ)) ↦[dst.view.set]{fullShare} (dst.view.write (Elt F) fd (src.view.read (Elt F) fs) Finset.univ) : sProp 𝕄)
      ⊢ recvPay m k n) :
    iprop(env m K ∗ ((src.view.loc (c : Thread nD τ)) ↦[src.view.set]{q} fs)
        ∗ ((dst.view.loc (Dev.tc n : Thread nD τ)) ↦[dst.view.set]{fullShare} fd) ∗ tk (F := F) k c ∗ ow (F := F) c k.val)
      ⊢ iprop((iprop(md (F := F) k c ∗ ow (F := F) c (k.val + 1)) -∗ wpc c (kt ⟨⟩) Q)
          -∗ wpc c (.op (.enqueueDma src (.remote (Dev.tc n : Thread nD τ) dst (.dma sS) hsc) (.dma sR) hsrc hdst hsem) kt) Q) := by
  subst hn hS hR
  unfold tk md ow
  iintro ⟨#HE, Hs, Hd, ⟨HtS, HtR, HaS, HaR, Hc⟩, %W, HO⟩ Hk
  iapply (Rounds.wp_send_pointsTo 𝒱₀ ER (rd m) (c : Thread nD τ) none (κ₁ := K (c, some (false, k))) (κ₂ := K (peer k c, some (true, k)))
    (r₁ := 0) (r₂ := 0) (d₁ := 0) (d₂ := 0) (fd := fd)
    (by rw [duties_send]; exact Finset.mem_singleton_self _) (by rw [duties_recv]; exact Finset.mem_singleton_self _)
    () () (amt k) hN (amount_send m c k 0) (amount_recv m (peer k c) k 0) (owR c (k.val + 1)) (owR_step c k) (W := W)
    (by rw [payload_send]; exact h1) (by rw [payload_recv]; exact h2)) $$ [Hs Hd HtS HtR HO]
  · isplitr; · iapply (env_inv m K (c, some (false, k))); iexact HE
    isplitr; · iapply (env_inv m K (peer k c, some (true, k))); iexact HE
    isplitl [Hs]; · iexact Hs
    isplitl [Hd]; · iexact Hd
    isplitl [HO]; · iexact HO
    isplitl [HtS]; · iexact HtS
    isplitr; · iapply (env_reached m K (c, some (false, k))); iexact HE
    isplitl [HtR]; · iexact HtR
    iapply (env_reached m K (peer k c, some (true, k))); iexact HE
  iintro ⟨HcS, HO⟩
  iapply Hk
  isplitr [HO]
  · isplitl [HcS]; · iexact HcS
    isplitl [HaS]; · iexact HaS
    isplitl [HaR]; · iexact HaR
    iexact Hc
  · iexists W; iexact HO

/-- The wait on transfer `k`'s send cell, at a moment when the transfers before `n` are started. -/
theorem wp_waitS {α : Type} (k : Fin 14) (n : ℕ) (c : Dev nD) {sS : DmaSem sig} (hS : sS = sendSem k)
    {sp sp' : Space} {s s' : Shape} {e e' : EltTy} {src : Memref sig .tc sp' s' e'} {κ' : Kind} {dst : Memref sig κ' sp s e}
    {hsrc : src.view.WordExact} {hdst : dst.view.WordExact}
    {kt : PUnit → Prog (TpuEff nD τ sig (Elt F) Λ₀ .tc) α} {Q : α → sProp 𝕄} (hN : dst.view.dmaCredit = amt k) :
    iprop(env m K ∗ md (F := F) k c ∗ ow (F := F) c n)
      ⊢ iprop((iprop(mr (F := F) k c ∗ ow (F := F) c n ∗ sendPay m k c) -∗ wpc c (kt ⟨⟩) Q)
          -∗ wpc c (.op (.waitDma2 sS src dst hsrc hdst) kt) Q) := by
  subst hS
  unfold md mr ow
  iintro ⟨#HE, ⟨HcS, HaS, HaR, Hc⟩, %W, HO⟩ Hk
  iapply (Rounds.wp_wait_rest_token 𝒱₀ ER (rd m) (c : Thread nD τ) none (κ := K (c, some (false, k)))
      (wpE_waitDma2_eq 𝒱₀ (c : Thread nD τ) none Set.univ) (Set.mem_univ _) () (O := owR c n) (W := W) (R := 0) (m := 0) (T := ∅)
      (by rw [Nat.zero_add, expect_send]; exact hN)) $$ [HcS HO HaS]
  · isplitr; · iapply (env_inv m K (c, some (false, k))); iexact HE
    isplitl [HcS]; · rw [hN]; iexact HcS
    isplitl [HO]; · iexact HO
    isplitr; · iapply (mayWait_R c (.dma (sendSem k)) n (by rw [lv_send]; omega)); iapply (env_lev m K); iexact HE
    iexact HaS
  iintro ⟨HO, HaS, -, Hpay⟩
  ihave Hp := (Entails.of_eq (rest_send m c k)) $$ Hpay
  iapply Hk
  isplitl [HaS HaR Hc]
  · isplitl [HaS]; · iexact HaS
    isplitl [HaR]; · iexact HaR
    iexact Hc
  isplitl [HO]; · iexists _; iexact HO
  iexact Hp

/-- The wait on its receive cell, once the transfers up to `k` are started. -/
theorem wp_waitR {α : Type} (k : Fin 14) (n : ℕ) (hk : k.val < n) (c : Dev nD) {sR : DmaSem sig} (hR : sR = recvSem k)
    {sp sp' : Space} {s s' : Shape} {e e' : EltTy} {src : Memref sig .tc sp' s' e'} {κ' : Kind} {dst : Memref sig κ' sp s e}
    {hsrc : src.view.WordExact} {hdst : dst.view.WordExact}
    {kt : PUnit → Prog (TpuEff nD τ sig (Elt F) Λ₀ .tc) α} {Q : α → sProp 𝕄} (hN : dst.view.dmaCredit = amt k) :
    iprop(env m K ∗ mr (F := F) k c ∗ ow (F := F) c n)
      ⊢ iprop((iprop(dn (F := F) k c ∗ ow (F := F) c n ∗ recvPay m k c) -∗ wpc c (kt ⟨⟩) Q)
          -∗ wpc c (.op (.waitDma2 sR src dst hsrc hdst) kt) Q) := by
  subst hR
  unfold mr dn ow
  iintro ⟨#HE, ⟨HaS, HaR, Hc⟩, %W, HO⟩ Hk
  iapply (Rounds.wp_wait_rest_token 𝒱₀ ER (rd m) (c : Thread nD τ) none (κ := K (c, some (true, k)))
      (wpE_waitDma2_eq 𝒱₀ (c : Thread nD τ) none Set.univ) (Set.mem_univ _) () (O := owR c n) (W := W) (R := 0) (m := 0) (T := ∅)
      (by rw [Nat.zero_add, expect_recv]; exact hN)) $$ [Hc HO HaR]
  · isplitr; · iapply (env_inv m K (c, some (true, k))); iexact HE
    isplitl [Hc]; · rw [hN]; iexact Hc
    isplitl [HO]; · iexact HO
    isplitr; · iapply (mayWait_R c (.dma (recvSem k)) n (by rw [lv_recv]; omega)); iapply (env_lev m K); iexact HE
    iexact HaR
  iintro ⟨HO, HaR, -, Hpay⟩
  ihave Hp := (Entails.of_eq (rest_recv m c k)) $$ Hpay
  iapply Hk
  isplitl [HaS HaR]
  · isplitl [HaS]; · iexact HaS
    iexact HaR
  isplitl [HO]; · iexists _; iexact HO
  iexact Hp

/-- A finished transfer's two cells close: their counters, at zero, are the device's again. -/
theorem close_dn (k : Fin 14) (c : Dev nD) :
    iprop(env m K ∗ dn (F := F) k c) ⊢ |={Set.univ}=> iprop(semVal (sendCell k c) 0 ∗ semVal (recvCell k c) 0) := by
  unfold dn
  iintro ⟨#HE, HaS, HaR⟩
  imod (Rounds.cell_close ER (rd m) (Set.mem_univ (K (c, some (false, k)))) (fun h => h) (R := 0 + 1) (duties_later m (sendCell k c))) $$ [HaS] with HzS
  · isplitr; · iapply (env_inv m K (c, some (false, k))); iexact HE
    iexact HaS
  imod (Rounds.cell_close ER (rd m) (Set.mem_univ (K (c, some (true, k)))) (fun h => h) (R := 0 + 1) (duties_later m (recvCell k c))) $$ [HaR] with HzR
  · isplitr; · iapply (env_inv m K (c, some (true, k))); iexact HE
    iexact HaR
  imodintro
  isplitl [HzS] <;> iassumption

/-- So does its barrier cell. -/
theorem close_bar (c : Dev nD) :
    iprop(env m K ∗ atPos ER (barCell c) (0 + 1) ∅ 0) ⊢ |={Set.univ}=> (semVal (barCell c) 0 : sProp 𝕄) := by
  iintro ⟨#HE, Ha⟩
  iapply (Rounds.cell_close ER (rd m) (Set.mem_univ (K (c, none))) (fun h => h) (R := 0 + 1) (duties_later m (barCell c)))
  isplitr; · iapply (env_inv m K (c, none)); iexact HE
  iexact Ha

end Rules

end Cert.KernelIdeal.Proto

end
-- ==== Proof.KI.Xfer.lean ====
/-
# One transfer's start, at the two kinds of source

A transfer reads a window of the accumulator into a buffer of its partner's, or a window of the gathered plane into
the same window of its partner's.
-/
module

public import proofs.«01_k».proof.Proof.KI.Sched

@[expose] public section

set_option maxRecDepth 8000

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Bool × Fin 14) → ℕ)

/-- The accumulator. -/
abbrev accM : Memref sig .tc .vmem S768x768 .bf16 := Memref.whole cc0_scratch0
/-- The gathered plane. -/
abbrev agM : Memref sig .tc .vmem S768x768 .bf16 := Memref.whole cc0_scratch14

/-- A program that returns. -/
theorem wpc_ret {α : Type} (c : Dev nD) (a : α) {Q : α → sProp 𝕄} : Q a ⊢ wpc c (.ret a) Q := by
  rw [wpc, wp_ret]
  iintro H
  imodintro
  iexact H

/-- A start whose source is a window of the accumulator. -/
theorem wp_goAcc {α : Type} (k : Fin 14) (c n : Dev nD) (hn : n = peer k c) {h r q : ℕ} {off : Fin 2 → ℕ} (ho : off = ![r, q])
    {inb} {hst} {dst : Memref sig (Dev.tc n : Thread nD τ).2.kind .vmem ⟨2, ![h, 384]⟩ .bf16}
    {sS sR : DmaSem sig} (hS : sS = sendSem k) (hR : sR = recvSem k)
    {hsc : dst.view.ref.isScScratch = false} {hsrc} {hdst : dst.view.WordExact}
    {hsem : DmaTarget.Typed .vmem (.dma sR) (.remote (Dev.tc n : Thread nD τ) dst (.dma sS) hsc)}
    {kt : PUnit → Prog (TpuEff nD τ sig (Elt F) Λ₀ .tc) α} {Q : α → sProp 𝕄}
    (hN : dst.view.amount (.dma sR) = amt k) (T : ℕ → ℕ → F .bf16) {D : Finset (Idx (dst.view.loc (Dev.tc n : Thread nD τ)))}
    (hD : dst.view.set = D)
    (h1 : own c cc0_scratch0 (box r h q 384) (plane T 0 0) ⊢ sendPay m k c)
    (h2 : ∀ fd : Buf (Elt F) (dst.view.loc (Dev.tc n : Thread nD τ)),
      ((dst.view.loc (Dev.tc n : Thread nD τ)) ↦[D]{fullShare} (dst.view.write (Elt F) fd (plane T r q) Finset.univ) : sProp 𝕄)
        ⊢ recvPay m k n)
    {Lp : sProp 𝕄} (hL : Lp ⊢ iprop(∃ fd : Buf (Elt F) (dst.view.loc (Dev.tc n : Thread nD τ)),
      (dst.view.loc (Dev.tc n : Thread nD τ)) ↦[D]{fullShare} fd)) :
    iprop(env m K ∗ own c cc0_scratch0 (box r h q 384) (plane T 0 0)
        ∗ Lp
        ∗ tk (F := F) k c ∗ ow (F := F) c k.val)
      ⊢ iprop((iprop(md (F := F) k c ∗ ow (F := F) c (k.val + 1)) -∗ wpc c (kt ⟨⟩) Q)
          -∗ wpc c (.op (.enqueueDma (accM.slice (Rect.unit (s := S768x768) off (⟨2, ![h, 384]⟩ : Shape).size inb) hst)
              (.remote (Dev.tc n : Thread nD τ) dst (.dma sS) hsc) (.dma sR) hsrc hdst hsem) kt) Q) := by
  subst hD
  have hset : (accM.slice (Rect.unit (s := S768x768) off (⟨2, ![h, 384]⟩ : Shape).size inb) hst).view.set = box r h q 384 :=
    (View.set_slice_whole cc0_scratch0 _).trans (unit_set ho inb)
  have hrd : (accM.slice (Rect.unit (s := S768x768) off (⟨2, ![h, 384]⟩ : Shape).size inb) hst).view.read (Elt F)
      (plane (n := 768) (m := 768) T 0 0) = plane T r q := by
    funext j
    refine (plane_emb T ho inb j).trans ?_
    rw [Nat.zero_add, Nat.zero_add]
  iintro ⟨#HE, Hs, Hl, Ht, HO⟩ Hk
  ihave Hl := hL $$ Hl
  icases Hl with ⟨%fd, Hd⟩
  iapply (wp_start m K k c n hn hS hR (q := fullShare) (fs := plane (n := 768) (m := 768) T 0 0) (fd := fd) hN
    (by rw [hset]; exact h1) (by rw [hrd]; exact h2 fd)) $$ [Hs Hd Ht HO]
  · isplitr; · iexact HE
    isplitl [Hs]; · rw [hset]; iexact Hs
    isplitl [Hd]; · iexact Hd
    isplitl [Ht]; · iexact Ht
    iexact HO
  iexact Hk

/-- A start from a window of the gathered plane into the partner's same window. -/
theorem wp_goAg {α : Type} (k : Fin 14) (c n : Dev nD) (hn : n = peer k c) {h r q : ℕ} {off : Fin 2 → ℕ} (ho : off = ![r, q])
    {inb} {hst}
    {sS sR : DmaSem sig} (hS : sS = sendSem k) (hR : sR = recvSem k)
    {hsc} {hsrc} {hdst}
    {hsem : DmaTarget.Typed .vmem (.dma sR) (.remote (Dev.tc n : Thread nD τ) (agM.slice (Rect.unit (s := S768x768) off (⟨2, ![h, 384]⟩ : Shape).size inb) hst) (.dma sS) hsc)}
    {kt : PUnit → Prog (TpuEff nD τ sig (Elt F) Λ₀ .tc) α} {Q : α → sProp 𝕄}
    (hN : crd h = amt k)
    (T : ℕ → ℕ → F .bf16) (sh : PosShare TreeShare)
    (h1 : (((c : Thread nD τ).loc cc0_scratch14) ↦[box r h q 384]{sh} (plane T 0 0) : sProp 𝕄) ⊢ sendPay m k c)
    (h2 : own n cc0_scratch14 (box r h q 384) (plane T 0 0) ⊢ recvPay m k n)
    {Lp : sProp 𝕄} (hL : Lp ⊢ any (F := F) n cc0_scratch14 (box r h q 384)) :
    iprop(env m K ∗ (((c : Thread nD τ).loc cc0_scratch14) ↦[box r h q 384]{sh} (plane T 0 0))
        ∗ Lp ∗ tk (F := F) k c ∗ ow (F := F) c k.val)
      ⊢ iprop((iprop(md (F := F) k c ∗ ow (F := F) c (k.val + 1)) -∗ wpc c (kt ⟨⟩) Q)
          -∗ wpc c (.op (.enqueueDma (agM.slice (Rect.unit (s := S768x768) off (⟨2, ![h, 384]⟩ : Shape).size inb) hst)
              (.remote (Dev.tc n : Thread nD τ) (agM.slice (Rect.unit (s := S768x768) off (⟨2, ![h, 384]⟩ : Shape).size inb) hst) (.dma sS) hsc)
              (.dma sR) hsrc hdst hsem) kt) Q) := by
  have hset : (agM.slice (Rect.unit (s := S768x768) off (⟨2, ![h, 384]⟩ : Shape).size inb) hst).view.set = box r h q 384 :=
    (View.set_slice_whole cc0_scratch14 _).trans (unit_set ho inb)
  have hw : ∀ fd : Buf (Elt F) ((n : Thread nD τ).loc cc0_scratch14),
      (((n : Thread nD τ).loc cc0_scratch14) ↦[box r h q 384]{fullShare}
        ((agM.slice (Rect.unit (s := S768x768) off (⟨2, ![h, 384]⟩ : Shape).size inb) hst).view.write (Elt F) fd
          ((agM.slice (Rect.unit (s := S768x768) off (⟨2, ![h, 384]⟩ : Shape).size inb) hst).view.read (Elt F) (plane (n := 768) (m := 768) T 0 0))
          Finset.univ) : sProp 𝕄)
      = own n cc0_scratch14 (box r h q 384) (plane T 0 0) := fun fd => by
    refine pointsTo_congr fun x hx => ?_
    obtain ⟨j, rfl⟩ : ∃ j, (Rect.unit (s := S768x768) off (⟨2, ![h, 384]⟩ : Shape).size inb).emb j = x := by
      rw [← unit_set ho inb, ← Rect.map_emb_univ] at hx; obtain ⟨j, -, hj⟩ := Finset.mem_map.mp hx; exact ⟨j, hj⟩
    exact View.write_emb_of_mem (v := (agM.slice (Rect.unit (s := S768x768) off (⟨2, ![h, 384]⟩ : Shape).size inb) hst).view) fd _ (Finset.mem_univ j)
  iintro ⟨#HE, Hs, Hl, Ht, HO⟩ Hk
  ihave Hl := hL $$ Hl
  icases Hl with ⟨%fd, Hd⟩
  iapply (wp_start m K k c n hn hS hR (q := sh) (fs := plane (n := 768) (m := 768) T 0 0) (fd := fd) (by exact hN)
    (by rw [hset]; exact h1) (by rw [hset]; exact (Entails.of_eq (hw fd)).trans h2)) $$ [Hs Hd Ht HO]
  · isplitr; · iexact HE
    isplitl [Hs]; · rw [hset]; iexact Hs
    isplitl [Hd]; · rw [hset]; iexact Hd
    isplitl [Ht]; · iexact Ht
    iexact HO
  iexact Hk

end Cert.KernelIdeal.Proto

end
-- ==== Proof.KI.Body1.lean ====
/-
# The body, first half: the local product and the first exchanges

One lemma per printed part of the body: what it takes, what it leaves.
-/
module

public import proofs.«01_k».proof.Proof.KI.Xfer

@[expose] public section

set_option maxRecDepth 8000

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Bool × Fin 14) → ℕ)

/-! ## Windows -/

/-- A window of a window. -/
theorem win {α : Type} {n m' h w r q r' q' : ℕ} {off : Fin 2 → ℕ} (T : ℕ → ℕ → α) (ho : off = ![r, q]) (inb) :
    (fun j => plane (n := n) (m := m') T r' q' ((Rect.unit (s := ⟨2, ![n, m']⟩) off (⟨2, ![h, w]⟩ : Shape).size inb).emb j))
      = plane (n := h) (m := w) T (r' + r) (q' + q) := funext (plane_emb T ho inb)

/-- A window of a plane held from its corner. -/
theorem win0 {α : Type} {n m' h w r q : ℕ} {off : Fin 2 → ℕ} (T : ℕ → ℕ → α) (ho : off = ![r, q]) (inb) :
    (fun j => plane (n := n) (m := m') T 0 0 ((Rect.unit (s := ⟨2, ![n, m']⟩) off (⟨2, ![h, w]⟩ : Shape).size inb).emb j))
      = plane (n := h) (m := w) T r q := by
  rw [win T ho inb, Nat.zero_add, Nat.zero_add]

/-- A buffer read whole. -/
theorem whole_emb {α : Type} {n m' : ℕ} {off : Fin 2 → ℕ} (f : (⟨2, ![n, m']⟩ : Shape).Idx → α) (ho : off = ![0, 0]) (inb) :
    (fun j => f ((Rect.unit (s := ⟨2, ![n, m']⟩) off (⟨2, ![n, m']⟩ : Shape).size inb).emb j)) = f := by
  funext j
  have h := unit_emb (n := n) (m := m') (h := n) (w := m') ho inb j
  congr 1
  funext a
  apply Fin.ext
  match a with
  | 0 => exact h.1.trans (Nat.zero_add _)
  | 1 => exact h.2.trans (Nat.zero_add _)

theorem whole_set {n m' : ℕ} {off : Fin 2 → ℕ} (ho : off = ![0, 0]) (inb) :
    (Rect.unit (s := ⟨2, ![n, m']⟩) off (⟨2, ![n, m']⟩ : Shape).size inb).set = Finset.univ := by
  rw [unit_set ho inb, box_univ]

/-- The rows of a buffer of 768 rows, in two halves. -/
theorem rows_split {w y z : ℕ} (H : Halves 0 384 y z) :
    Disjoint (box y 384 0 w : Finset (⟨2, ![768, w]⟩ : Shape).Idx) (box z 384 0 w)
      ∧ (Finset.univ : Finset (⟨2, ![768, w]⟩ : Shape).Idx) = box y 384 0 w ∪ box z 384 0 w := by
  have h := box_halves (n := 768) (m := w) (q := 0) (w := w) H
  rw [← box_univ 768 w]
  exact h

/-! ## The parts -/

/-- The token of `c`'s signal in direction `d`. -/
abbrev bt (d : Fin 4) (c : Dev nD) : sProp 𝕄 := dutyTok ER (barCell (prt d c)) 0 d
/-- A whole buffer, holding `f`. -/
abbrev all (c : Dev nD) (b : Ref sig .tc) (f : Buf (Elt F) ((c : Thread nD τ).loc b)) : sProp 𝕄 := own c b Finset.univ f

/-- The first two signals. -/
theorem part1_spec (c : Dev nD) {Q} :
    iprop(env m K ∗ bt (F := F) 0 c ∗ give (F := F) 0 c ∗ bt (F := F) 1 c ∗ give (F := F) 1 c ∗ owb (F := F) c 0)
      ⊢ iprop((∀ v8 v10 v11 v14 v17 v20 v23, owb (F := F) c 2 -∗ Q ⟨c, v8, v10, v11, v14, v17, v20, v23, SemArray.scalar (sig.barrier 0 rfl), 1#32⟩)
        -∗ wpc c (k0_part1 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19) Q) := by
  simp only [k0_part1_eq_skeleton]; unfold k0_part1_skel
  simp only [semSignalWord, semWaitWord, Prog.lift, Prog.bind_op, Prog.bind_ret, Prog.pure_eq_ret, wp_deviceId]
  iintro ⟨#HE, Ht0, Hg0, Ht1, Hg1, HO⟩ Hk
  iapply (wp_sig m K 0 c _ (sig1_eq c) (by decide)) $$ [Ht0 Hg0 HO]
  · isplitr; · iexact HE
    isplitl [Ht0]; · iexact Ht0
    isplitl [Hg0]; · iexact Hg0
    iexact HO
  iintro HO
  iapply (wp_sig m K 1 c _ (sig2_eq c) (by decide)) $$ [Ht1 Hg1 HO]
  · isplitr; · iexact HE
    isplitl [Ht1]; · iexact Ht1
    isplitl [Hg1]; · iexact Hg1
    iexact HO
  iintro HO
  iapply wpc_ret
  iapply Hk; iexact HO

/-- The other two signals, and the casts of the activations and the gate weights. -/
theorem part2_spec (c : Dev nD) (v8 v10 v11 v20 v23 : BitVec 32) {Q} :
    iprop(env m K ∗ bt (F := F) 2 c ∗ give (F := F) 2 c ∗ bt (F := F) 3 c ∗ give (F := F) 3 c ∗ owb (F := F) c 2
        ∗ all c cc0_stg0_0 (xS m c) ∗ any (F := F) c cc0_scratch2 Finset.univ ∗ all c cc0_stg1_0 (gS m c) ∗ any (F := F) c cc0_scratch3 Finset.univ)
      ⊢ iprop((∀ v33 v35 v37 v38 v40 v42 v44 v46, iprop(owb (F := F) c 4 ∗ all c cc0_stg0_0 (xS m c)
            ∗ all c cc0_scratch2 (plane (toPlane (xV m c)) 0 0) ∗ all c cc0_stg1_0 (gS m c) ∗ all c cc0_scratch3 (gV m c))
          -∗ Q ⟨v33, v35, v37, v38, v40, v42, v44, v46, plane (toPlane (xV m c)) (sa1 c) 0⟩)
        -∗ wpc c (k0_part2 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19
          c v8 v10 v11 v20 v23 (SemArray.scalar (sig.barrier 0 rfl)) 1#32) Q) := by
  simp only [k0_part2_eq_skeleton]; unfold k0_part2_skel
  simp only [semSignalWord, semWaitWord, Prog.lift, Prog.bind_op, Prog.bind_ret, Prog.pure_eq_ret, wp_deviceId]
  iintro ⟨#HE, Ht0, Hg0, Ht1, Hg1, HO, Hx, ⟨%f2, H2⟩, Hg, ⟨%f3, H3⟩⟩ Hk
  iapply (wp_sig m K 2 c _ (sig3_eq c) (by decide)) $$ [Ht0 Hg0 HO]
  · isplitr; · iexact HE
    isplitl [Ht0]; · iexact Ht0
    isplitl [Hg0]; · iexact Hg0
    iexact HO
  iintro HO
  iapply (wp_sig m K 3 c _ (sig4_eq c) (by decide)) $$ [Ht1 Hg1 HO]
  · isplitr; · iexact HE
    isplitl [Ht1]; · iexact Ht1
    isplitl [Hg1]; · iexact Hg1
    iexact HO
  iintro HO
  iapply (wp_ld c _ _ _ (Finset.subset_univ _) (v := xS m c) (by exact whole_emb _ rfl _)) $$ Hx; iintro Hx
  iapply (wp_ld c _ _ _ (Finset.subset_univ _) rfl) $$ H2; iintro H2
  iapply (wp_st c _ _ _ (plane (toPlane (xV m c)) 0 0) (by exact whole_set rfl _)
    (by exact (whole_emb _ rfl _).trans (plane_toPlane _))) $$ H2; iintro H2
  iapply (wp_ld c _ _ _ (Finset.subset_univ _) (v := gS m c) (by exact whole_emb _ rfl _)) $$ Hg; iintro Hg
  iapply (wp_ld c _ _ _ (Finset.subset_univ _) rfl) $$ H3; iintro H3
  iapply (wp_st c _ _ _ (gV m c) (by exact whole_set rfl _) (by exact whole_emb _ rfl _)) $$ H3; iintro H3
  iapply (wp_ld c _ _ _ (Finset.subset_univ _) (v := plane (toPlane (xV m c)) (sa1 c) 0) (by exact win0 _ (off1 c) _)) $$ H2; iintro H2
  iapply wpc_ret
  iapply Hk
  isplitl [HO]; · iexact HO
  isplitl [Hx]; · iexact Hx
  isplitl [H2]; · iexact H2
  isplitl [Hg]; · iexact Hg
  iexact H3

/-- The other two casts, the first block of the hidden layer and of the product, and the wait for the signals. -/
theorem part3_spec (c : Dev nD) (v44 : BitVec 32) {Q} :
    iprop(env m K ∗ all c cc0_scratch3 (gV m c) ∗ all c cc0_stg2_0 (uS m c) ∗ any (F := F) c cc0_scratch4 Finset.univ
        ∗ all c cc0_stg3_0 (dS m c) ∗ any (F := F) c cc0_scratch5 Finset.univ
        ∗ any (F := F) c cc0_scratch1 (box (sa1 c) 384 0 1536) ∗ any (F := F) c cc0_scratch0 (box (sa1 c) 384 0 384)
        ∗ cred (tallyAt (barCell c) () 4) ∗ atPos ER (barCell c) 0 ∅ 0 ∗ owb (F := F) c 4)
      ⊢ iprop((iprop(all c cc0_scratch3 (gV m c) ∗ all c cc0_stg2_0 (uS m c) ∗ all c cc0_scratch4 (uV m c)
            ∗ all c cc0_stg3_0 (dS m c) ∗ all c cc0_scratch5 (plane (toPlane (dV m c)) 0 0)
            ∗ own c cc0_scratch1 (box (sa1 c) 384 0 1536) (plane (hP m c) 0 0)
            ∗ own c cc0_scratch0 (box (sa1 c) 384 0 384) (plane (pP m c) 0 0)
            ∗ ow (F := F) c 0 ∗ atPos ER (barCell c) (0 + 1) ∅ 0 ∗ give (F := F) 0 (px c) ∗ give (F := F) 1 (py c)
            ∗ give (F := F) 2 (pz c) ∗ give (F := F) 3 (pw c)) -∗ Q ⟨⟩)
        -∗ wpc c (k0_part3 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19
          c (SemArray.scalar (sig.barrier 0 rfl)) v44 (plane (toPlane (xV m c)) (sa1 c) 0)) Q) := by
  simp only [k0_part3_eq_skeleton]; unfold k0_part3_skel
  simp only [semSignalWord, semWaitWord, Prog.lift, Prog.bind_op, Prog.bind_ret, Prog.pure_eq_ret, wp_deviceId]
  iintro ⟨#HE, H3, Hu, ⟨%f4, H4⟩, Hd, ⟨%f5, H5⟩, ⟨%f1, H1⟩, ⟨%f0, H0⟩, Hc, Hat, HO⟩ Hk
  iapply (wp_ld c _ _ _ (Finset.subset_univ _) (v := gV m c) (by exact whole_emb _ rfl _)) $$ H3; iintro H3
  iapply (wp_ld c _ _ _ (Finset.subset_univ _) (v := uS m c) (by exact whole_emb _ rfl _)) $$ Hu; iintro Hu
  iapply (wp_ld c _ _ _ (Finset.subset_univ _) rfl) $$ H4; iintro H4
  iapply (wp_st c _ _ _ (uV m c) (by exact whole_set rfl _) (by exact whole_emb _ rfl _)) $$ H4; iintro H4
  iapply (wp_ld c _ _ _ (Finset.subset_univ _) (v := uV m c) (by exact whole_emb _ rfl _)) $$ H4; iintro H4
  iapply (wp_ld c _ _ _ (Finset.subset_univ _) (v := dS m c) (by exact whole_emb _ rfl _)) $$ Hd; iintro Hd
  iapply (wp_ld c _ _ _ (Finset.subset_univ _) rfl) $$ H5; iintro H5
  iapply (wp_st c _ _ _ (plane (toPlane (dV m c)) 0 0) (by exact whole_set rfl _)
    (by exact (whole_emb _ rfl _).trans (plane_toPlane _))) $$ H5; iintro H5
  iapply (wp_ld c _ _ _ (by rw [unit_set (off2 c)]) rfl) $$ H1; iintro H1
  iapply (wp_st c _ _ _ (plane (hP m c) 0 0) (by exact unit_set (off2 c) _)
    (by exact (win0 _ (off2 c) _).trans (hP_block m c (sa1_mul c)))) $$ H1; iintro H1
  iapply (wp_ld c _ _ _ (by rw [unit_set (off2 c)]) (v := plane (hP m c) (sa1 c) 0) (by exact win0 _ (off2 c) _)) $$ H1; iintro H1
  iapply (wp_ld c _ _ _ (Finset.subset_univ _) (v := plane (toPlane (dV m c)) 0 0) (by exact win0 _ rfl _)) $$ H5; iintro H5
  iapply (wp_ld c _ _ _ (by rw [unit_set (off3 c)]) rfl) $$ H0; iintro H0
  iapply (wp_st c _ _ _ (plane (pP m c) 0 0) (by exact unit_set (off3 c) _)
    (by exact (win0 _ (off3 c) _).trans (pP_block m c (sa1_mul c) rfl))) $$ H0; iintro H0
  iapply (wp_bar m K c (by decide)) $$ [Hc Hat HO]
  · isplitr; · iexact HE
    isplitl [Hc]; · iexact Hc
    isplitl [Hat]; · iexact Hat
    iexact HO
  iintro Hr
  iapply wpc_ret
  iapply Hk
  isplitl [H3]; · iexact H3
  isplitl [Hu]; · iexact Hu
  isplitl [H4]; · iexact H4
  isplitl [Hd]; · iexact Hd
  isplitl [H5]; · iexact H5
  isplitl [H1]; · iexact H1
  isplitl [H0]; · iexact H0
  iexact Hr

/-- Transfer 0 starts; the rest of the hidden layer, and the second block of the product. -/
theorem part4_spec (c : Dev nD) (v14 v17 v33 v46 : BitVec 32) {Q} :
    iprop(env m K ∗ own c cc0_scratch0 (box (sa1 c) 384 0 384) (plane (pP m c) 0 0) ∗ any (F := F) (px c) cc0_scratch6 Finset.univ ∗ tk (F := F) 0 c ∗ ow (F := F) c 0
        ∗ all c cc0_scratch2 (plane (toPlane (xV m c)) 0 0) ∗ all c cc0_scratch3 (gV m c) ∗ all c cc0_scratch4 (uV m c)
        ∗ all c cc0_scratch5 (plane (toPlane (dV m c)) 0 0)
        ∗ own c cc0_scratch1 (box (sa1 c) 384 0 1536) (plane (hP m c) 0 0) ∗ any (F := F) c cc0_scratch1 (box (a1 c) 384 0 1536)
        ∗ any (F := F) c cc0_scratch0 (box (sb1 c) 384 384 384))
      ⊢ iprop((iprop(md (F := F) 0 c ∗ ow (F := F) c 1
            ∗ all c cc0_scratch2 (plane (toPlane (xV m c)) 0 0) ∗ all c cc0_scratch3 (gV m c) ∗ all c cc0_scratch4 (uV m c)
            ∗ all c cc0_scratch5 (plane (toPlane (dV m c)) 0 0) ∗ all c cc0_scratch1 (plane (hP m c) 0 0)
            ∗ own c cc0_scratch0 (box (sb1 c) 384 384 384) (plane (pP m c) 0 0)) -∗ Q ⟨⟩)
        -∗ wpc c (k0_part4 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19
          c v14 v17 v33 v46) Q) := by
  simp only [k0_part4_eq_skeleton]; unfold k0_part4_skel
  simp only [semSignalWord, semWaitWord, Prog.lift, Prog.bind_op, Prog.bind_ret, Prog.pure_eq_ret, wp_deviceId]
  iintro ⟨#HE, Hs, Hl, Ht, HO, H2, H3, H4, H5, H1, ⟨%f1, H1'⟩, ⟨%f0, H0⟩⟩ Hk
  iapply (wp_goAcc m K 0 c _ (dst0_eq c) (off4 c) (by rfl) (by rfl) (by rfl) (pP m c) (D := Finset.univ) (by exact View.set_whole _)
    (Entails.refl _)
    (by intro fd; rw [dst0_eq c, View.write_whole_univ]; show _ ⊢ recvPay m 0 (px c); unfold recvPay; simp only [px_px, a1_px]; exact Entails.refl _)
    (Lp := any (F := F) (px c) cc0_scratch6 Finset.univ) (by rw [dst0_eq c]; exact Entails.refl _))
    $$ [Hs Hl Ht HO]
  · isplitr; · iexact HE
    isplitl [Hs]; · iexact Hs
    isplitl [Hl]; · iexact Hl
    isplitl [Ht]; · iexact Ht
    iexact HO
  iintro ⟨Hmd, HO⟩
  iapply (wp_ld c _ _ _ (Finset.subset_univ _) (v := plane (toPlane (xV m c)) (a1 c) 0) (by exact win0 _ (off5 c) _)) $$ H2; iintro H2
  iapply (wp_ld c _ _ _ (Finset.subset_univ _) (v := gV m c) (by exact whole_emb _ rfl _)) $$ H3; iintro H3
  iapply (wp_ld c _ _ _ (Finset.subset_univ _) (v := uV m c) (by exact whole_emb _ rfl _)) $$ H4; iintro H4
  iapply (wp_ld c _ _ _ (by rw [unit_set (off6 c)]) rfl) $$ H1'; iintro H1'
  iapply (wp_st c _ _ _ (plane (hP m c) 0 0) (by exact unit_set (off6 c) _)
    (by exact (win0 _ (off6 c) _).trans (hP_block m c (a1_mul c)))) $$ H1'; iintro H1'
  icombine H1 H1' as H1
  ihave H1 := (split_two (F := F) (rows_split (w := 1536) (halves_a1 c))).2 $$ H1
  iapply (wp_ld c _ _ _ (Finset.subset_univ _) (v := plane (hP m c) (sb1 c) 0) (by exact win0 _ (off7 c) _)) $$ H1; iintro H1
  iapply (wp_ld c _ _ _ (Finset.subset_univ _) (v := plane (toPlane (dV m c)) 0 384) (by exact win0 _ rfl _)) $$ H5; iintro H5
  iapply (wp_ld c _ _ _ (by rw [unit_set (off8 c)]) rfl) $$ H0; iintro H0
  iapply (wp_st c _ _ _ (plane (pP m c) 0 0) (by exact unit_set (off8 c) _)
    (by exact (win0 _ (off8 c) _).trans (pP_block m c (sb1_mul c) rfl))) $$ H0; iintro H0
  iapply wpc_ret
  iapply Hk
  isplitl [Hmd]; · iexact Hmd
  isplitl [HO]; · iexact HO
  isplitl [H2]; · iexact H2
  isplitl [H3]; · iexact H3
  isplitl [H4]; · iexact H4
  isplitl [H5]; · iexact H5
  isplitl [H1]; · iexact H1
  iexact H0

end Cert.KernelIdeal.Proto

end
-- ==== Proof.KI.Body2.lean ====
/-
# The body, middle: the sums the devices exchange

Each part waits for a transfer, adds what landed to its own rows, and sends the half it gives away.
-/
module

public import proofs.«01_k».proof.Proof.KI.Body1

@[expose] public section

set_option maxRecDepth 8000

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Bool × Fin 14) → ℕ)

/-- Halves of a column half of the accumulator, as windows of rows. -/
theorem half_rows {x h y z q : ℕ} (H : Halves x h y z) {h' : ℕ} (e : h' = 2 * h) :
    Disjoint (box y h q 384 : Finset (⟨2, ![768, 768]⟩ : Shape).Idx) (box z h q 384)
      ∧ (box x h' q 384 : Finset (⟨2, ![768, 768]⟩ : Shape).Idx) = box y h q 384 ∪ box z h q 384 := by
  subst e; exact box_halves H

/-- Transfer 1 starts; the last two blocks of the product; transfer 0 has been read. -/
theorem part5_spec (c : Dev nD) (v8 v10 v14 v33 v38 : BitVec 32) {Q} :
    iprop(env m K ∗ own c cc0_scratch0 (box (sb1 c) 384 384 384) (plane (pP m c) 0 0) ∗ any (F := F) (py c) cc0_scratch10 Finset.univ
        ∗ tk (F := F) 1 c ∗ ow (F := F) c 1 ∗ all c cc0_scratch1 (plane (hP m c) 0 0)
        ∗ all c cc0_scratch5 (plane (toPlane (dV m c)) 0 0)
        ∗ any (F := F) c cc0_scratch0 (box (a1 c) 384 0 384) ∗ any (F := F) c cc0_scratch0 (box (b1 c) 384 384 384) ∗ md (F := F) 0 c)
      ⊢ iprop((∀ v151 v154, iprop(md (F := F) 1 c ∗ ow (F := F) c 2 ∗ all c cc0_scratch1 (plane (hP m c) 0 0)
            ∗ all c cc0_scratch5 (plane (toPlane (dV m c)) 0 0)
            ∗ own c cc0_scratch0 (box (a1 c) 384 0 384) (plane (pP m c) 0 0) ∗ own c cc0_scratch0 (box (b1 c) 384 384 384) (plane (pP m c) 0 0)
            ∗ mr (F := F) 0 c ∗ own c cc0_scratch0 (box (sa1 c) 384 0 384) (plane (pP m c) 0 0)) -∗ Q ⟨v151, v154⟩)
        -∗ wpc c (k0_part5 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19
          c v8 v10 v14 v33 v38) Q) := by
  simp only [k0_part5_eq_skeleton]; unfold k0_part5_skel
  simp only [semSignalWord, semWaitWord, Prog.lift, Prog.bind_op, Prog.bind_ret, Prog.pure_eq_ret, wp_deviceId]
  iintro ⟨#HE, Hs, Hl, Ht, HO, H1, H5, ⟨%fa, Ha⟩, ⟨%fb, Hb⟩, Hm0⟩ Hk
  iapply (wp_goAcc m K 1 c _ (dst1_eq c) (off9 c) (by rfl) (by rfl) (by rfl) (pP m c) (D := Finset.univ) (by exact View.set_whole _)
    (Entails.refl _)
    (by intro fd; rw [dst1_eq c, View.write_whole_univ]; show _ ⊢ recvPay m 1 (py c); unfold recvPay; simp only [py_py, b1_py]; exact Entails.refl _)
    (Lp := any (F := F) (py c) cc0_scratch10 Finset.univ) (by rw [dst1_eq c]; exact Entails.refl _))
    $$ [Hs Hl Ht HO]
  · isplitr; · iexact HE
    isplitl [Hs]; · iexact Hs
    isplitl [Hl]; · iexact Hl
    isplitl [Ht]; · iexact Ht
    iexact HO
  iintro ⟨Hmd, HO⟩
  iapply (wp_ld c _ _ _ (Finset.subset_univ _) (v := plane (hP m c) (a1 c) 0) (by exact win0 _ (off6 c) _)) $$ H1; iintro H1
  iapply (wp_ld c _ _ _ (Finset.subset_univ _) (v := plane (toPlane (dV m c)) 0 0) (by exact win0 _ rfl _)) $$ H5; iintro H5
  iapply (wp_ld c _ _ _ (by rw [unit_set (off10 c)]) rfl) $$ Ha; iintro Ha
  iapply (wp_st c _ _ _ (plane (pP m c) 0 0) (by exact unit_set (off10 c) _)
    (by exact (win0 _ (off10 c) _).trans (pP_block m c (a1_mul c) rfl))) $$ Ha; iintro Ha
  iapply (wp_ld c _ _ _ (Finset.subset_univ _) (v := plane (hP m c) (b1 c) 0) (by exact win0 _ (off11 c) _)) $$ H1; iintro H1
  iapply (wp_ld c _ _ _ (Finset.subset_univ _) (v := plane (toPlane (dV m c)) 0 384) (by exact win0 _ rfl _)) $$ H5; iintro H5
  iapply (wp_ld c _ _ _ (by rw [unit_set (off12 c)]) rfl) $$ Hb; iintro Hb
  iapply (wp_st c _ _ _ (plane (pP m c) 0 0) (by exact unit_set (off12 c) _)
    (by exact (win0 _ (off12 c) _).trans (pP_block m c (b1_mul c) rfl))) $$ Hb; iintro Hb
  iapply (wp_waitS m K 0 2 c (by rfl) (by rfl)) $$ [Hm0 HO]
  · isplitr; · iexact HE
    isplitl [Hm0]; · iexact Hm0
    iexact HO
  iintro ⟨Hm0, HO, Hs⟩
  ihave Hs := (show sendPay m 0 c ⊢ own c cc0_scratch0 (box (sa1 c) 384 0 384) (plane (pP m c) 0 0) from Entails.refl _) $$ Hs
  iapply wpc_ret
  iapply Hk
  isplitl [Hmd]; · iexact Hmd
  isplitl [HO]; · iexact HO
  isplitl [H1]; · iexact H1
  isplitl [H5]; · iexact H5
  isplitl [Ha]; · iexact Ha
  isplitl [Hb]; · iexact Hb
  isplitl [Hm0]; · iexact Hm0
  iexact Hs

/-- Transfer 0 has landed; its sum is formed in two windows, the first sent as transfer 2; transfer 1 has been read. -/
theorem part6_spec (c : Dev nD) (v10 v17 v35 v151 : BitVec 32) {Q} :
    iprop(env m K ∗ mr (F := F) 0 c ∗ ow (F := F) c 2 ∗ own c cc0_scratch0 (box (a1 c) 384 0 384) (plane (pP m c) 0 0)
        ∗ any (F := F) (py c) cc0_scratch7 Finset.univ ∗ tk (F := F) 2 c ∗ md (F := F) 1 c)
      ⊢ iprop((∀ v194 w, iprop(dn (F := F) 0 c ∗ any (F := F) c cc0_scratch6 Finset.univ
            ∗ own c cc0_scratch0 (box (a2 c) 192 0 384) (plane (tA1 m c) 0 0)
            ∗ md (F := F) 2 c ∗ ow (F := F) c 3 ∗ mr (F := F) 1 c ∗ own c cc0_scratch0 (box (sb1 c) 384 384 384) (plane (pP m c) 0 0))
            -∗ Q ⟨v194, w⟩)
        -∗ wpc c (k0_part6 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19
          c v10 v17 v35 v151) Q) := by
  simp only [k0_part6_eq_skeleton]; unfold k0_part6_skel
  simp only [semSignalWord, semWaitWord, Prog.lift, Prog.bind_op, Prog.bind_ret, Prog.pure_eq_ret, wp_deviceId]
  iintro ⟨#HE, Hm0, HO, Ha, Hl, Ht, Hm1⟩ Hk
  iapply (wp_waitR m K 0 2 (by decide) c (by rfl) (by rfl)) $$ [Hm0 HO]
  · isplitr; · iexact HE
    isplitl [Hm0]; · iexact Hm0
    iexact HO
  iintro ⟨Hd0, HO, Hr⟩
  ihave Hr := (show recvPay m 0 c ⊢ all c cc0_scratch6 (plane (pP m (px c)) (a1 c) 0) from Entails.refl _) $$ Hr
  ihave Ha := (split_two (F := F) (half_rows (halves_a2 c) rfl)).1 $$ Ha
  icases Ha with ⟨Hs, Ha⟩
  iapply (wp_ld c _ _ _ (by rw [unit_set (off13 c)]) (v := plane (pP m c) (sa2 c) 0) (by exact win0 _ (off13 c) _)) $$ Hs; iintro Hs
  iapply (wp_ld c _ _ _ (Finset.subset_univ _) (v := plane (pP m (px c)) (sa2 c) 0) (by exact win _ (off14 c) _)) $$ Hr; iintro Hr
  iapply (wp_ld c _ _ _ (by rw [unit_set (off13 c)]) rfl) $$ Hs; iintro Hs
  iapply (wp_st c _ _ _ (plane (tA1 m c) 0 0) (by exact unit_set (off13 c) _)
    (by exact (win0 _ (off13 c) _).trans (pay11_eq _ _).symm)) $$ Hs; iintro Hs
  iapply (wp_goAcc m K 2 c _ (dst2_eq c) (off15 c) (by rfl) (by rfl) (by rfl) (tA1 m c) (D := Finset.univ) (by exact View.set_whole _)
    (Entails.refl _)
    (by intro fd; rw [dst2_eq c, View.write_whole_univ]; show _ ⊢ recvPay m 2 (py c); unfold recvPay; simp only [py_py, a2_py]; exact Entails.refl _)
    (Lp := any (F := F) (py c) cc0_scratch7 Finset.univ) (by rw [dst2_eq c]; exact Entails.refl _))
    $$ [Hs Hl Ht HO]
  · isplitr; · iexact HE
    isplitl [Hs]; · iexact Hs
    isplitl [Hl]; · iexact Hl
    isplitl [Ht]; · iexact Ht
    iexact HO
  iintro ⟨Hmd, HO⟩
  iapply (wp_ld c _ _ _ (by rw [unit_set (off16 c)]) (v := plane (pP m c) (a2 c) 0) (by exact win0 _ (off16 c) _)) $$ Ha; iintro Ha
  iapply (wp_ld c _ _ _ (Finset.subset_univ _) (v := plane (pP m (px c)) (a2 c) 0) (by exact win _ (off17 c) _)) $$ Hr; iintro Hr
  iapply (wp_ld c _ _ _ (by rw [unit_set (off16 c)]) rfl) $$ Ha; iintro Ha
  iapply (wp_st c _ _ _ (plane (tA1 m c) 0 0) (by exact unit_set (off16 c) _)
    (by exact (win0 _ (off16 c) _).trans (pay12_eq _ _).symm)) $$ Ha; iintro Ha
  iapply (wp_waitS m K 1 3 c (by rfl) (by rfl)) $$ [Hm1 HO]
  · isplitr; · iexact HE
    isplitl [Hm1]; · iexact Hm1
    iexact HO
  iintro ⟨Hm1, HO, Hs⟩
  ihave Hs := (show sendPay m 1 c ⊢ own c cc0_scratch0 (box (sb1 c) 384 384 384) (plane (pP m c) 0 0) from Entails.refl _) $$ Hs
  iapply wpc_ret
  iapply Hk
  isplitl [Hd0]; · iexact Hd0
  isplitl [Hr]; · iexists _; iexact Hr
  isplitl [Ha]; · iexact Ha
  isplitl [Hmd]; · iexact Hmd
  isplitl [HO]; · iexact HO
  isplitl [Hm1]; · iexact Hm1
  iexact Hs

/-- The same of transfer 1 and the right column half; the window given away is transfer 3. -/
theorem part7_spec (c : Dev nD) (v8 v11 v14 v35 v40 v154 v194 w0 : BitVec 32) {Q} :
    iprop(env m K ∗ mr (F := F) 1 c ∗ ow (F := F) c 3 ∗ own c cc0_scratch0 (box (b1 c) 384 384 384) (plane (pP m c) 0 0)
        ∗ any (F := F) (px c) cc0_scratch11 Finset.univ ∗ tk (F := F) 3 c)
      ⊢ iprop((∀ v229 v231, iprop(dn (F := F) 1 c ∗ any (F := F) c cc0_scratch10 Finset.univ
            ∗ own c cc0_scratch0 (box (b2 c) 192 384 384) (plane (tB1 m c) 0 0)
            ∗ md (F := F) 3 c ∗ ow (F := F) c 4) -∗ Q ⟨v229, v231⟩)
        -∗ wpc c (k0_part7 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19
          c v8 v11 v14 v35 v40 v154 v194 w0) Q) := by
  simp only [k0_part7_eq_skeleton]; unfold k0_part7_skel
  simp only [semSignalWord, semWaitWord, Prog.lift, Prog.bind_op, Prog.bind_ret, Prog.pure_eq_ret, wp_deviceId]
  iintro ⟨#HE, Hm1, HO, Hb, Hl, Ht⟩ Hk
  iapply (wp_waitR m K 1 3 (by decide) c (by rfl) (by rfl)) $$ [Hm1 HO]
  · isplitr; · iexact HE
    isplitl [Hm1]; · iexact Hm1
    iexact HO
  iintro ⟨Hd1, HO, Hr⟩
  ihave Hr := (show recvPay m 1 c ⊢ all c cc0_scratch10 (plane (pP m (py c)) (b1 c) 384) from Entails.refl _) $$ Hr
  ihave Hb := (split_two (F := F) (half_rows (halves_b2 c) rfl)).1 $$ Hb
  icases Hb with ⟨Hs, Hb⟩
  iapply (wp_ld c _ _ _ (by rw [unit_set (off18 c)]) (v := plane (pP m c) (sb2 c) 384) (by exact win0 _ (off18 c) _)) $$ Hs; iintro Hs
  iapply (wp_ld c _ _ _ (Finset.subset_univ _) (v := plane (pP m (py c)) (sb2 c) 384) (by exact win _ (off19 c) _)) $$ Hr; iintro Hr
  iapply (wp_ld c _ _ _ (by rw [unit_set (off18 c)]) rfl) $$ Hs; iintro Hs
  iapply (wp_st c _ _ _ (plane (tB1 m c) 0 0) (by exact unit_set (off18 c) _)
    (by exact (win0 _ (off18 c) _).trans (pay13_eq _ _).symm)) $$ Hs; iintro Hs
  iapply (wp_goAcc m K 3 c _ (dst3_eq c) (off20 c) (by rfl) (by rfl) (by rfl) (tB1 m c) (D := Finset.univ) (by exact View.set_whole _)
    (Entails.refl _)
    (by intro fd; rw [dst3_eq c, View.write_whole_univ]; show _ ⊢ recvPay m 3 (px c); unfold recvPay; simp only [px_px, b2_px]; exact Entails.refl _)
    (Lp := any (F := F) (px c) cc0_scratch11 Finset.univ) (by rw [dst3_eq c]; exact Entails.refl _))
    $$ [Hs Hl Ht HO]
  · isplitr; · iexact HE
    isplitl [Hs]; · iexact Hs
    isplitl [Hl]; · iexact Hl
    isplitl [Ht]; · iexact Ht
    iexact HO
  iintro ⟨Hmd, HO⟩
  iapply (wp_ld c _ _ _ (by rw [unit_set (off21 c)]) (v := plane (pP m c) (b2 c) 384) (by exact win0 _ (off21 c) _)) $$ Hb; iintro Hb
  iapply (wp_ld c _ _ _ (Finset.subset_univ _) (v := plane (pP m (py c)) (b2 c) 384) (by exact win _ (off22 c) _)) $$ Hr; iintro Hr
  iapply (wp_ld c _ _ _ (by rw [unit_set (off21 c)]) rfl) $$ Hb; iintro Hb
  iapply (wp_st c _ _ _ (plane (tB1 m c) 0 0) (by exact unit_set (off21 c) _)
    (by exact (win0 _ (off21 c) _).trans (pay14_eq _ _).symm)) $$ Hb; iintro Hb
  iapply wpc_ret
  iapply Hk
  isplitl [Hd1]; · iexact Hd1
  isplitl [Hr]; · iexists _; iexact Hr
  isplitl [Hb]; · iexact Hb
  isplitl [Hmd]; · iexact Hmd
  iexact HO

/-- Transfer 2 has landed; its sum, the window given away sent as transfer 4, the other returned. -/
theorem part8_spec (c : Dev nD) (v11 v17 v20 v37 v40 v229 v231 : BitVec 32) {Q} :
    iprop(env m K ∗ md (F := F) 2 c ∗ ow (F := F) c 4 ∗ own c cc0_scratch0 (box (a2 c) 192 0 384) (plane (tA1 m c) 0 0)
        ∗ any (F := F) (pz c) cc0_scratch8 Finset.univ ∗ tk (F := F) 4 c)
      ⊢ iprop((∀ v232, iprop(dn (F := F) 2 c ∗ own c cc0_scratch0 (box (sa2 c) 192 0 384) (plane (tA1 m c) 0 0)
            ∗ any (F := F) c cc0_scratch7 Finset.univ ∗ md (F := F) 4 c ∗ ow (F := F) c 5
            ∗ own c cc0_scratch0 (box (a3 c) 96 0 384) (plane (tA1 m c) 0 0)) -∗ Q ⟨v232, plane (tA2 m c) (a3 c) 0⟩)
        -∗ wpc c (k0_part8 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19
          c v11 v17 v20 v37 v40 v229 v231) Q) := by
  simp only [k0_part8_eq_skeleton]; unfold k0_part8_skel
  simp only [semSignalWord, semWaitWord, Prog.lift, Prog.bind_op, Prog.bind_ret, Prog.pure_eq_ret, wp_deviceId]
  iintro ⟨#HE, Hm, HO, Ha, Hl, Ht⟩ Hk
  iapply (wp_waitS m K 2 4 c (by rfl) (by rfl)) $$ [Hm HO]
  · isplitr; · iexact HE
    isplitl [Hm]; · iexact Hm
    iexact HO
  iintro ⟨Hm, HO, Hb⟩
  iapply (wp_waitR m K 2 4 (by decide) c (by rfl) (by rfl)) $$ [Hm HO]
  · isplitr; · iexact HE
    isplitl [Hm]; · iexact Hm
    iexact HO
  iintro ⟨Hd, HO, Hr⟩
  ihave Hr := (show recvPay m 2 c ⊢ all c cc0_scratch7 (plane (tA1 m (py c)) (a2 c) 0) from Entails.refl _) $$ Hr
  ihave Ha := (split_two (F := F) (half_rows (halves_a3 c) rfl)).1 $$ Ha
  icases Ha with ⟨Hs, Ha⟩
  iapply (wp_ld c _ _ _ (by rw [unit_set (off23 c)]) (v := plane (tA1 m c) (sa3 c) 0) (by exact win0 _ (off23 c) _)) $$ Hs; iintro Hs
  iapply (wp_ld c _ _ _ (Finset.subset_univ _) (v := plane (tA1 m (py c)) (sa3 c) 0) (by exact win _ (off24 c) _)) $$ Hr; iintro Hr
  iapply (wp_ld c _ _ _ (by rw [unit_set (off23 c)]) rfl) $$ Hs; iintro Hs
  iapply (wp_st c _ _ _ (plane (tA2 m c) 0 0) (by exact unit_set (off23 c) _)
    (by exact (win0 _ (off23 c) _).trans (pay15_eq _ _).symm)) $$ Hs; iintro Hs
  iapply (wp_goAcc m K 4 c _ (dst4_eq c) (off25 c) (by rfl) (by rfl) (by rfl) (tA2 m c) (D := Finset.univ) (by exact View.set_whole _)
    (Entails.refl _)
    (by intro fd; rw [dst4_eq c, View.write_whole_univ]; show _ ⊢ recvPay m 4 (pz c); unfold recvPay; simp only [pz_pz, a3_pz]; exact Entails.refl _)
    (Lp := any (F := F) (pz c) cc0_scratch8 Finset.univ) (by rw [dst4_eq c]; exact Entails.refl _))
    $$ [Hs Hl Ht HO]
  · isplitr; · iexact HE
    isplitl [Hs]; · iexact Hs
    isplitl [Hl]; · iexact Hl
    isplitl [Ht]; · iexact Ht
    iexact HO
  iintro ⟨Hmd, HO⟩
  iapply (wp_ld c _ _ _ (by rw [unit_set (off26 c)]) (v := plane (tA1 m c) (a3 c) 0) (by exact win0 _ (off26 c) _)) $$ Ha; iintro Ha
  iapply (wp_ld c _ _ _ (Finset.subset_univ _) (v := plane (tA1 m (py c)) (a3 c) 0) (by exact win _ (off27 c) _)) $$ Hr; iintro Hr
  ihave Hb := (show sendPay m 2 c ⊢ own c cc0_scratch0 (box (sa2 c) 192 0 384) (plane (tA1 m c) 0 0) from Entails.refl _) $$ Hb
  rw [show k0_pay16 (plane (tA1 m c) (a3 c) 0) (plane (tA1 m (py c)) (a3 c) 0) = plane (tA2 m c) (a3 c) 0 from pay16_eq _ _]
  iapply wpc_ret
  iapply Hk
  isplitl [Hd]; · iexact Hd
  isplitl [Hb]; · iexact Hb
  isplitl [Hr]; · iexists _; iexact Hr
  isplitl [Hmd]; · iexact Hmd
  isplitl [HO]; · iexact HO
  iexact Ha

/-- The returned window is stored; transfer 3 has landed; its sum, the window given away sent as transfer 5. -/
theorem part9_spec (c : Dev nD) (v11 v14 v20 v42 v232 : BitVec 32) {Q} :
    iprop(env m K ∗ own c cc0_scratch0 (box (a3 c) 96 0 384) (plane (tA1 m c) 0 0) ∗ md (F := F) 3 c ∗ ow (F := F) c 5
        ∗ own c cc0_scratch0 (box (b2 c) 192 384 384) (plane (tB1 m c) 0 0)
        ∗ any (F := F) (pz c) cc0_scratch12 Finset.univ ∗ tk (F := F) 5 c)
      ⊢ iprop((iprop(own c cc0_scratch0 (box (a3 c) 96 0 384) (plane (tA2 m c) 0 0) ∗ dn (F := F) 3 c
            ∗ own c cc0_scratch0 (box (sb2 c) 192 384 384) (plane (tB1 m c) 0 0)
            ∗ all c cc0_scratch11 (plane (tB1 m (px c)) (b2 c) 384) ∗ md (F := F) 5 c ∗ ow (F := F) c 6
            ∗ own c cc0_scratch0 (box (b3 c) 96 384 384) (plane (tB1 m c) 0 0)) -∗ Q (plane (tB1 m c) (b3 c) 384))
        -∗ wpc c (k0_part9 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19
          c v11 v14 v20 v42 v232 (plane (tA2 m c) (a3 c) 0)) Q) := by
  simp only [k0_part9_eq_skeleton]; unfold k0_part9_skel
  simp only [semSignalWord, semWaitWord, Prog.lift, Prog.bind_op, Prog.bind_ret, Prog.pure_eq_ret, wp_deviceId]
  iintro ⟨#HE, Ha, Hm, HO, Hb, Hl, Ht⟩ Hk
  iapply (wp_ld c _ _ _ (by rw [unit_set (off26 c)]) rfl) $$ Ha; iintro Ha
  iapply (wp_st c _ _ _ (plane (tA2 m c) 0 0) (by exact unit_set (off26 c) _)
    (by exact (win0 _ (off26 c) _).trans (pay17_eq _).symm)) $$ Ha; iintro Ha
  iapply (wp_waitS m K 3 5 c (by rfl) (by rfl)) $$ [Hm HO]
  · isplitr; · iexact HE
    isplitl [Hm]; · iexact Hm
    iexact HO
  iintro ⟨Hm, HO, Hb'⟩
  iapply (wp_waitR m K 3 5 (by decide) c (by rfl) (by rfl)) $$ [Hm HO]
  · isplitr; · iexact HE
    isplitl [Hm]; · iexact Hm
    iexact HO
  iintro ⟨Hd, HO, Hr⟩
  ihave Hr := (show recvPay m 3 c ⊢ all c cc0_scratch11 (plane (tB1 m (px c)) (b2 c) 384) from Entails.refl _) $$ Hr
  ihave Hb := (split_two (F := F) (half_rows (halves_b3 c) rfl)).1 $$ Hb
  icases Hb with ⟨Hs, Hb⟩
  iapply (wp_ld c _ _ _ (by rw [unit_set (off28 c)]) (v := plane (tB1 m c) (sb3 c) 384) (by exact win0 _ (off28 c) _)) $$ Hs; iintro Hs
  iapply (wp_ld c _ _ _ (Finset.subset_univ _) (v := plane (tB1 m (px c)) (sb3 c) 384) (by exact win _ (off24 c) _)) $$ Hr; iintro Hr
  iapply (wp_ld c _ _ _ (by rw [unit_set (off28 c)]) rfl) $$ Hs; iintro Hs
  iapply (wp_st c _ _ _ (plane (tB2 m c) 0 0) (by exact unit_set (off28 c) _)
    (by exact (win0 _ (off28 c) _).trans (pay18_eq _ _).symm)) $$ Hs; iintro Hs
  iapply (wp_goAcc m K 5 c _ (dst5_eq c) (off29 c) (by rfl) (by rfl) (by rfl) (tB2 m c) (D := Finset.univ) (by exact View.set_whole _)
    (Entails.refl _)
    (by intro fd; rw [dst5_eq c, View.write_whole_univ]; show _ ⊢ recvPay m 5 (pz c); unfold recvPay; simp only [pz_pz, b3_pz]; exact Entails.refl _)
    (Lp := any (F := F) (pz c) cc0_scratch12 Finset.univ) (by rw [dst5_eq c]; exact Entails.refl _))
    $$ [Hs Hl Ht HO]
  · isplitr; · iexact HE
    isplitl [Hs]; · iexact Hs
    isplitl [Hl]; · iexact Hl
    isplitl [Ht]; · iexact Ht
    iexact HO
  iintro ⟨Hmd, HO⟩
  iapply (wp_ld c _ _ _ (by rw [unit_set (off30 c)]) (v := plane (tB1 m c) (b3 c) 384) (by exact win0 _ (off30 c) _)) $$ Hb; iintro Hb
  ihave Hb' := (show sendPay m 3 c ⊢ own c cc0_scratch0 (box (sb2 c) 192 384 384) (plane (tB1 m c) 0 0) from Entails.refl _) $$ Hb'
  iapply wpc_ret
  iapply Hk
  isplitl [Ha]; · iexact Ha
  isplitl [Hd]; · iexact Hd
  isplitl [Hb']; · iexact Hb'
  isplitl [Hr]; · iexact Hr
  isplitl [Hmd]; · iexact Hmd
  isplitl [HO]; · iexact HO
  iexact Hb

/-- The other window of that sum; transfer 4 has landed; its sum, sent as transfer 6. -/
theorem part10_spec (c : Dev nD) (v20 v23 v37 v42 : BitVec 32) {Q} :
    iprop(env m K ∗ all c cc0_scratch11 (plane (tB1 m (px c)) (b2 c) 384) ∗ own c cc0_scratch0 (box (b3 c) 96 384 384) (plane (tB1 m c) 0 0)
        ∗ md (F := F) 4 c ∗ ow (F := F) c 6 ∗ own c cc0_scratch0 (box (a3 c) 96 0 384) (plane (tA2 m c) 0 0)
        ∗ any (F := F) (pw c) cc0_scratch9 Finset.univ ∗ tk (F := F) 6 c)
      ⊢ iprop((iprop(any (F := F) c cc0_scratch11 Finset.univ ∗ own c cc0_scratch0 (box (b3 c) 96 384 384) (plane (tB2 m c) 0 0)
            ∗ dn (F := F) 4 c ∗ own c cc0_scratch0 (box (sa3 c) 96 0 384) (plane (tA2 m c) 0 0)
            ∗ any (F := F) c cc0_scratch8 Finset.univ ∗ md (F := F) 6 c ∗ ow (F := F) c 7) -∗ Q ⟨⟩)
        -∗ wpc c (k0_part10 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19
          c v20 v23 v37 v42 (plane (tB1 m c) (b3 c) 384)) Q) := by
  simp only [k0_part10_eq_skeleton]; unfold k0_part10_skel
  simp only [semSignalWord, semWaitWord, Prog.lift, Prog.bind_op, Prog.bind_ret, Prog.pure_eq_ret, wp_deviceId]
  iintro ⟨#HE, Hr, Hb, Hm, HO, Ha, Hl, Ht⟩ Hk
  iapply (wp_ld c _ _ _ (Finset.subset_univ _) (v := plane (tB1 m (px c)) (b3 c) 384) (by exact win _ (off27 c) _)) $$ Hr; iintro Hr
  iapply (wp_ld c _ _ _ (by rw [unit_set (off30 c)]) rfl) $$ Hb; iintro Hb
  iapply (wp_st c _ _ _ (plane (tB2 m c) 0 0) (by exact unit_set (off30 c) _)
    (by exact (win0 _ (off30 c) _).trans (pay19_eq _ _).symm)) $$ Hb; iintro Hb
  iapply (wp_waitS m K 4 6 c (by rfl) (by rfl)) $$ [Hm HO]
  · isplitr; · iexact HE
    isplitl [Hm]; · iexact Hm
    iexact HO
  iintro ⟨Hm, HO, Hs'⟩
  iapply (wp_waitR m K 4 6 (by decide) c (by rfl) (by rfl)) $$ [Hm HO]
  · isplitr; · iexact HE
    isplitl [Hm]; · iexact Hm
    iexact HO
  iintro ⟨Hd, HO, Hq⟩
  ihave Hq := (show recvPay m 4 c ⊢ all c cc0_scratch8 (plane (tA2 m (pz c)) (a3 c) 0) from Entails.refl _) $$ Hq
  iapply (wp_ld c _ _ _ (by rw [unit_set (off26 c)]) (v := plane (tA2 m c) (a3 c) 0) (by exact win0 _ (off26 c) _)) $$ Ha; iintro Ha
  iapply (wp_ld c _ _ _ (Finset.subset_univ _) (v := plane (tA2 m (pz c)) (a3 c) 0) (by exact win _ rfl _)) $$ Hq; iintro Hq
  iapply (wp_ld c _ _ _ (by rw [unit_set (off26 c)]) rfl) $$ Ha; iintro Ha
  iapply (wp_st c _ _ _ (plane (tA3 m c) 0 0) (by exact unit_set (off26 c) _)
    (by exact (win0 _ (off26 c) _).trans (pay20_eq _ _).symm)) $$ Ha; iintro Ha
  iapply (wp_goAcc m K 6 c _ (dst6_eq c) (off31 c) (by rfl) (by rfl) (by rfl) (tA3 m c) (D := Finset.univ) (by exact View.set_whole _)
    (Entails.refl _)
    (by intro fd; rw [dst6_eq c, View.write_whole_univ]; show _ ⊢ recvPay m 6 (pw c); unfold recvPay; simp only [pw_pw, a3_pw]; exact Entails.refl _)
    (Lp := any (F := F) (pw c) cc0_scratch9 Finset.univ) (by rw [dst6_eq c]; exact Entails.refl _))
    $$ [Ha Hl Ht HO]
  · isplitr; · iexact HE
    isplitl [Ha]; · iexact Ha
    isplitl [Hl]; · iexact Hl
    isplitl [Ht]; · iexact Ht
    iexact HO
  iintro ⟨Hmd, HO⟩
  ihave Hs' := (show sendPay m 4 c ⊢ own c cc0_scratch0 (box (sa3 c) 96 0 384) (plane (tA2 m c) 0 0) from Entails.refl _) $$ Hs'
  iapply wpc_ret
  iapply Hk
  isplitl [Hr]; · iexists _; iexact Hr
  isplitl [Hb]; · iexact Hb
  isplitl [Hd]; · iexact Hd
  isplitl [Hs']; · iexact Hs'
  isplitl [Hq]; · iexists _; iexact Hq
  isplitl [Hmd]; · iexact Hmd
  iexact HO

end Cert.KernelIdeal.Proto

end
-- ==== Proof.KI.Body3.lean ====
/-
# The body, second half: the last sums and the gathering

The last exchange forms the rows a device finishes; three rounds of exchanges then gather all rows on every device.
-/
module

public import proofs.«01_k».proof.Proof.KI.Body2

@[expose] public section

set_option maxRecDepth 8000

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Bool × Fin 14) → ℕ)

/-- Transfer 5 has landed; its sum, sent as transfer 7; transfer 6 has landed. -/
theorem part11_spec (c : Dev nD) (v20 v23 v37 v42 : BitVec 32) {Q} :
    iprop(env m K ∗ md (F := F) 5 c ∗ ow (F := F) c 7 ∗ own c cc0_scratch0 (box (b3 c) 96 384 384) (plane (tB2 m c) 0 0)
        ∗ any (F := F) (pw c) cc0_scratch13 Finset.univ ∗ tk (F := F) 7 c ∗ md (F := F) 6 c)
      ⊢ iprop((iprop(dn (F := F) 5 c ∗ own c cc0_scratch0 (box (sb3 c) 96 384 384) (plane (tB2 m c) 0 0)
            ∗ any (F := F) c cc0_scratch12 Finset.univ ∗ md (F := F) 7 c ∗ ow (F := F) c 8 ∗ dn (F := F) 6 c
            ∗ own c cc0_scratch0 (box (a3 c) 96 0 384) (plane (tA3 m c) 0 0)
            ∗ all c cc0_scratch9 (plane (tA3 m (pw c)) (a3 c) 0)) -∗ Q ⟨⟩)
        -∗ wpc c (k0_part11 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19
          c v20 v23 v37 v42) Q) := by
  simp only [k0_part11_eq_skeleton]; unfold k0_part11_skel
  simp only [semSignalWord, semWaitWord, Prog.lift, Prog.bind_op, Prog.bind_ret, Prog.pure_eq_ret, wp_deviceId]
  iintro ⟨#HE, Hm, HO, Hb, Hl, Ht, Hm6⟩ Hk
  iapply (wp_waitS m K 5 7 c (by rfl) (by rfl)) $$ [Hm HO]
  · isplitr; · iexact HE
    isplitl [Hm]; · iexact Hm
    iexact HO
  iintro ⟨Hm, HO, Hs'⟩
  iapply (wp_waitR m K 5 7 (by decide) c (by rfl) (by rfl)) $$ [Hm HO]
  · isplitr; · iexact HE
    isplitl [Hm]; · iexact Hm
    iexact HO
  iintro ⟨Hd, HO, Hq⟩
  ihave Hq := (show recvPay m 5 c ⊢ all c cc0_scratch12 (plane (tB2 m (pz c)) (b3 c) 384) from Entails.refl _) $$ Hq
  iapply (wp_ld c _ _ _ (by rw [unit_set (off30 c)]) (v := plane (tB2 m c) (b3 c) 384) (by exact win0 _ (off30 c) _)) $$ Hb; iintro Hb
  iapply (wp_ld c _ _ _ (Finset.subset_univ _) (v := plane (tB2 m (pz c)) (b3 c) 384) (by exact win _ rfl _)) $$ Hq; iintro Hq
  iapply (wp_ld c _ _ _ (by rw [unit_set (off30 c)]) rfl) $$ Hb; iintro Hb
  iapply (wp_st c _ _ _ (plane (tB3 m c) 0 0) (by exact unit_set (off30 c) _)
    (by exact (win0 _ (off30 c) _).trans (pay21_eq _ _).symm)) $$ Hb; iintro Hb
  iapply (wp_goAcc m K 7 c _ (dst7_eq c) (off32 c) (by rfl) (by rfl) (by rfl) (tB3 m c) (D := Finset.univ) (by exact View.set_whole _)
    (Entails.refl _)
    (by intro fd; rw [dst7_eq c, View.write_whole_univ]; show _ ⊢ recvPay m 7 (pw c); unfold recvPay; simp only [pw_pw, b3_pw]; exact Entails.refl _)
    (Lp := any (F := F) (pw c) cc0_scratch13 Finset.univ) (by rw [dst7_eq c]; exact Entails.refl _))
    $$ [Hb Hl Ht HO]
  · isplitr; · iexact HE
    isplitl [Hb]; · iexact Hb
    isplitl [Hl]; · iexact Hl
    isplitl [Ht]; · iexact Ht
    iexact HO
  iintro ⟨Hmd, HO⟩
  iapply (wp_waitS m K 6 8 c (by rfl) (by rfl)) $$ [Hm6 HO]
  · isplitr; · iexact HE
    isplitl [Hm6]; · iexact Hm6
    iexact HO
  iintro ⟨Hm6, HO, Ha⟩
  iapply (wp_waitR m K 6 8 (by decide) c (by rfl) (by rfl)) $$ [Hm6 HO]
  · isplitr; · iexact HE
    isplitl [Hm6]; · iexact Hm6
    iexact HO
  iintro ⟨Hd6, HO, Hr⟩
  ihave Hs' := (show sendPay m 5 c ⊢ own c cc0_scratch0 (box (sb3 c) 96 384 384) (plane (tB2 m c) 0 0) from Entails.refl _) $$ Hs'
  ihave Ha := (show sendPay m 6 c ⊢ own c cc0_scratch0 (box (a3 c) 96 0 384) (plane (tA3 m c) 0 0) from Entails.refl _) $$ Ha
  ihave Hr := (show recvPay m 6 c ⊢ all c cc0_scratch9 (plane (tA3 m (pw c)) (a3 c) 0) from Entails.refl _) $$ Hr
  iapply wpc_ret
  iapply Hk
  isplitl [Hd]; · iexact Hd
  isplitl [Hs']; · iexact Hs'
  isplitl [Hq]; · iexists _; iexact Hq
  isplitl [Hmd]; · iexact Hmd
  isplitl [HO]; · iexact HO
  isplitl [Hd6]; · iexact Hd6
  isplitl [Ha]; · iexact Ha
  iexact Hr

/-- The left rows the device finishes, stored and sent as transfer 8; transfer 7 has landed; the right rows it finishes. -/
theorem part12_spec (c : Dev nD) (v20 v23 v37 v42 : BitVec 32) {Q} :
    iprop(env m K ∗ own c cc0_scratch0 (box (a3 c) 96 0 384) (plane (tA3 m c) 0 0) ∗ all c cc0_scratch9 (plane (tA3 m (pw c)) (a3 c) 0)
        ∗ any (F := F) c cc0_scratch14 (box (a3 c) 96 0 384) ∗ any (F := F) (pz c) cc0_scratch14 (box (a3 c) 96 0 384)
        ∗ tk (F := F) 8 c ∗ ow (F := F) c 8 ∗ md (F := F) 7 c ∗ any (F := F) c cc0_scratch14 (box (b3 c) 96 384 384))
      ⊢ iprop((iprop(own c cc0_scratch0 (box (a3 c) 96 0 384) (plane (tA3 m c) 0 0) ∗ any (F := F) c cc0_scratch9 Finset.univ
            ∗ md (F := F) 8 c ∗ ow (F := F) c 9 ∗ dn (F := F) 7 c ∗ own c cc0_scratch0 (box (b3 c) 96 384 384) (plane (tB3 m c) 0 0)
            ∗ any (F := F) c cc0_scratch13 Finset.univ ∗ own c cc0_scratch14 (box (b3 c) 96 384 384) (plane (gB m c) 0 0)) -∗ Q ⟨⟩)
        -∗ wpc c (k0_part12 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19
          c v20 v23 v37 v42) Q) := by
  simp only [k0_part12_eq_skeleton]; unfold k0_part12_skel
  simp only [semSignalWord, semWaitWord, Prog.lift, Prog.bind_op, Prog.bind_ret, Prog.pure_eq_ret, wp_deviceId]
  iintro ⟨#HE, Ha, Hr, ⟨%fg, Hg⟩, Hl, Ht, HO, Hm, ⟨%fh, Hh⟩⟩ Hk
  iapply (wp_ld c _ _ _ (by rw [unit_set (off26 c)]) (v := plane (tA3 m c) (a3 c) 0) (by exact win0 _ (off26 c) _)) $$ Ha; iintro Ha
  iapply (wp_ld c _ _ _ (Finset.subset_univ _) (v := plane (tA3 m (pw c)) (a3 c) 0) (by exact win _ rfl _)) $$ Hr; iintro Hr
  iapply (wp_ld c _ _ _ (by rw [unit_set (off26 c)]) rfl) $$ Hg; iintro Hg
  iapply (wp_st c _ _ _ (plane (gA m c) 0 0) (by exact unit_set (off26 c) _)
    (by exact (win0 _ (off26 c) _).trans ((gA_own m c 0).trans (pay22_eq _ _).symm))) $$ Hg; iintro Hg
  iapply (wp_goAg m K 8 c _ (dst8_eq c) (off31 c) (by rfl) (by rfl) (by rfl) (gA m c) fullShare
    (Entails.refl _)
    (by rw [dst8_eq c]; show _ ⊢ recvPay m 8 (pz c); unfold recvPay; simp only [gA_pz, sa3_pz]; exact Entails.refl _)
    (Lp := any (F := F) (pz c) cc0_scratch14 (box (a3 c) 96 0 384)) (by rw [dst8_eq c]; exact Entails.refl _))
    $$ [Hg Hl Ht HO]
  · isplitr; · iexact HE
    isplitl [Hg]; · iexact Hg
    isplitl [Hl]; · iexact Hl
    isplitl [Ht]; · iexact Ht
    iexact HO
  iintro ⟨Hmd, HO⟩
  iapply (wp_waitS m K 7 9 c (by rfl) (by rfl)) $$ [Hm HO]
  · isplitr; · iexact HE
    isplitl [Hm]; · iexact Hm
    iexact HO
  iintro ⟨Hm, HO, Hb⟩
  iapply (wp_waitR m K 7 9 (by decide) c (by rfl) (by rfl)) $$ [Hm HO]
  · isplitr; · iexact HE
    isplitl [Hm]; · iexact Hm
    iexact HO
  iintro ⟨Hd, HO, Hq⟩
  ihave Hb := (show sendPay m 7 c ⊢ own c cc0_scratch0 (box (b3 c) 96 384 384) (plane (tB3 m c) 0 0) from Entails.refl _) $$ Hb
  ihave Hq := (show recvPay m 7 c ⊢ all c cc0_scratch13 (plane (tB3 m (pw c)) (b3 c) 384) from Entails.refl _) $$ Hq
  iapply (wp_ld c _ _ _ (by rw [unit_set (off30 c)]) (v := plane (tB3 m c) (b3 c) 384) (by exact win0 _ (off30 c) _)) $$ Hb; iintro Hb
  iapply (wp_ld c _ _ _ (Finset.subset_univ _) (v := plane (tB3 m (pw c)) (b3 c) 384) (by exact win _ rfl _)) $$ Hq; iintro Hq
  iapply (wp_ld c _ _ _ (by rw [unit_set (off30 c)]) rfl) $$ Hh; iintro Hh
  iapply (wp_st c _ _ _ (plane (gB m c) 0 0) (by exact unit_set (off30 c) _)
    (by exact (win0 _ (off30 c) _).trans ((gB_own m c 384).trans (pay23_eq _ _).symm))) $$ Hh; iintro Hh
  iapply wpc_ret
  iapply Hk
  isplitl [Ha]; · iexact Ha
  isplitl [Hr]; · iexists _; iexact Hr
  isplitl [Hmd]; · iexact Hmd
  isplitl [HO]; · iexact HO
  isplitl [Hd]; · iexact Hd
  isplitl [Hb]; · iexact Hb
  isplitl [Hq]; · iexists _; iexact Hq
  iexact Hh

/-- Transfer 9 starts; transfer 8 has landed and its rows, with the device's own, go out as transfer 10. -/
theorem part13_spec (c : Dev nD) (v17 v20 : BitVec 32) {Q} :
    iprop(env m K ∗ own c cc0_scratch14 (box (b3 c) 96 384 384) (plane (gB m c) 0 0) ∗ any (F := F) (pz c) cc0_scratch14 (box (b3 c) 96 384 384)
        ∗ tk (F := F) 9 c ∗ ow (F := F) c 9 ∗ md (F := F) 8 c ∗ any (F := F) (py c) cc0_scratch14 (box (a2 c) 192 0 384) ∗ tk (F := F) 10 c)
      ⊢ iprop((iprop(md (F := F) 9 c ∗ ow (F := F) c 11 ∗ dn (F := F) 8 c ∗ md (F := F) 10 c) -∗ Q ⟨⟩)
        -∗ wpc c (k0_part13 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19
          c v17 v20) Q) := by
  simp only [k0_part13_eq_skeleton]; unfold k0_part13_skel
  simp only [semSignalWord, semWaitWord, Prog.lift, Prog.bind_op, Prog.bind_ret, Prog.pure_eq_ret, wp_deviceId]
  iintro ⟨#HE, Hb, Hl, Ht, HO, Hm, Hl', Ht'⟩ Hk
  iapply (wp_goAg m K 9 c _ (dst9_eq c) (off32 c) (by rfl) (by rfl) (by rfl) (gB m c) fullShare
    (Entails.refl _)
    (by rw [dst9_eq c]; show _ ⊢ recvPay m 9 (pz c); unfold recvPay; simp only [gB_pz, sb3_pz]; exact Entails.refl _)
    (Lp := any (F := F) (pz c) cc0_scratch14 (box (b3 c) 96 384 384)) (by rw [dst9_eq c]; exact Entails.refl _))
    $$ [Hb Hl Ht HO]
  · isplitr; · iexact HE
    isplitl [Hb]; · iexact Hb
    isplitl [Hl]; · iexact Hl
    isplitl [Ht]; · iexact Ht
    iexact HO
  iintro ⟨Hmd, HO⟩
  iapply (wp_waitS m K 8 10 c (by rfl) (by rfl)) $$ [Hm HO]
  · isplitr; · iexact HE
    isplitl [Hm]; · iexact Hm
    iexact HO
  iintro ⟨Hm, HO, Ha⟩
  iapply (wp_waitR m K 8 10 (by decide) c (by rfl) (by rfl)) $$ [Hm HO]
  · isplitr; · iexact HE
    isplitl [Hm]; · iexact Hm
    iexact HO
  iintro ⟨Hd, HO, Hr⟩
  ihave Ha := (show sendPay m 8 c ⊢ own c cc0_scratch14 (box (a3 c) 96 0 384) (plane (gA m c) 0 0) from Entails.refl _) $$ Ha
  ihave Hr := (show recvPay m 8 c ⊢ own c cc0_scratch14 (box (sa3 c) 96 0 384) (plane (gA m c) 0 0) from Entails.refl _) $$ Hr
  icombine Hr Ha as Ha
  ihave Ha := (split_two (F := F) (half_rows (halves_a3 c) rfl)).2 $$ Ha
  iapply (wp_goAg m K 10 c _ (dst10_eq c) (off33 c) (by rfl) (by rfl) (by rfl) (gA m c) fullShare
    (Entails.refl _)
    (by rw [dst10_eq c]; show _ ⊢ recvPay m 10 (py c); unfold recvPay; simp only [gA_py, sa2_py]; exact Entails.refl _)
    (Lp := any (F := F) (py c) cc0_scratch14 (box (a2 c) 192 0 384)) (by rw [dst10_eq c]; exact Entails.refl _))
    $$ [Ha Hl' Ht' HO]
  · isplitr; · iexact HE
    isplitl [Ha]; · iexact Ha
    isplitl [Hl']; · iexact Hl'
    isplitl [Ht']; · iexact Ht'
    iexact HO
  iintro ⟨Hmd', HO⟩
  iapply wpc_ret
  iapply Hk
  isplitl [Hmd]; · iexact Hmd
  isplitl [HO]; · iexact HO
  isplitl [Hd]; · iexact Hd
  iexact Hmd'

/-- Transfer 9 has landed and its rows go on as transfer 11; transfer 10 has landed. -/
theorem part14_spec (c : Dev nD) (v14 v17 v20 : BitVec 32) {Q} :
    iprop(env m K ∗ md (F := F) 9 c ∗ ow (F := F) c 11 ∗ any (F := F) (px c) cc0_scratch14 (box (b2 c) 192 384 384)
        ∗ tk (F := F) 11 c ∗ md (F := F) 10 c)
      ⊢ iprop((iprop(dn (F := F) 9 c ∗ md (F := F) 11 c ∗ ow (F := F) c 12 ∗ dn (F := F) 10 c
            ∗ own c cc0_scratch14 (box (a1 c) 384 0 384) (plane (gA m c) 0 0)) -∗ Q ⟨⟩)
        -∗ wpc c (k0_part14 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19
          c v14 v17 v20) Q) := by
  simp only [k0_part14_eq_skeleton]; unfold k0_part14_skel
  simp only [semSignalWord, semWaitWord, Prog.lift, Prog.bind_op, Prog.bind_ret, Prog.pure_eq_ret, wp_deviceId]
  iintro ⟨#HE, Hm, HO, Hl, Ht, Hm'⟩ Hk
  iapply (wp_waitS m K 9 11 c (by rfl) (by rfl)) $$ [Hm HO]
  · isplitr; · iexact HE
    isplitl [Hm]; · iexact Hm
    iexact HO
  iintro ⟨Hm, HO, Hb⟩
  iapply (wp_waitR m K 9 11 (by decide) c (by rfl) (by rfl)) $$ [Hm HO]
  · isplitr; · iexact HE
    isplitl [Hm]; · iexact Hm
    iexact HO
  iintro ⟨Hd, HO, Hr⟩
  ihave Hb := (show sendPay m 9 c ⊢ own c cc0_scratch14 (box (b3 c) 96 384 384) (plane (gB m c) 0 0) from Entails.refl _) $$ Hb
  ihave Hr := (show recvPay m 9 c ⊢ own c cc0_scratch14 (box (sb3 c) 96 384 384) (plane (gB m c) 0 0) from Entails.refl _) $$ Hr
  icombine Hr Hb as Hb
  ihave Hb := (split_two (F := F) (half_rows (halves_b3 c) rfl)).2 $$ Hb
  iapply (wp_goAg m K 11 c _ (dst11_eq c) (off34 c) (by rfl) (by rfl) (by rfl) (gB m c) fullShare
    (Entails.refl _)
    (by rw [dst11_eq c]; show _ ⊢ recvPay m 11 (px c); unfold recvPay; simp only [gB_px, sb2_px]; exact Entails.refl _)
    (Lp := any (F := F) (px c) cc0_scratch14 (box (b2 c) 192 384 384)) (by rw [dst11_eq c]; exact Entails.refl _))
    $$ [Hb Hl Ht HO]
  · isplitr; · iexact HE
    isplitl [Hb]; · iexact Hb
    isplitl [Hl]; · iexact Hl
    isplitl [Ht]; · iexact Ht
    iexact HO
  iintro ⟨Hmd, HO⟩
  iapply (wp_waitS m K 10 12 c (by rfl) (by rfl)) $$ [Hm' HO]
  · isplitr; · iexact HE
    isplitl [Hm']; · iexact Hm'
    iexact HO
  iintro ⟨Hm', HO, Ha⟩
  iapply (wp_waitR m K 10 12 (by decide) c (by rfl) (by rfl)) $$ [Hm' HO]
  · isplitr; · iexact HE
    isplitl [Hm']; · iexact Hm'
    iexact HO
  iintro ⟨Hd', HO, Hr⟩
  ihave Ha := (show sendPay m 10 c ⊢ own c cc0_scratch14 (box (a2 c) 192 0 384) (plane (gA m c) 0 0) from Entails.refl _) $$ Ha
  ihave Hr := (show recvPay m 10 c ⊢ own c cc0_scratch14 (box (sa2 c) 192 0 384) (plane (gA m c) 0 0) from Entails.refl _) $$ Hr
  icombine Hr Ha as Ha
  ihave Ha := (split_two (F := F) (half_rows (halves_a2 c) rfl)).2 $$ Ha
  iapply wpc_ret
  iapply Hk
  isplitl [Hd]; · iexact Hd
  isplitl [Hmd]; · iexact Hmd
  isplitl [HO]; · iexact HO
  isplitl [Hd']; · iexact Hd'
  iexact Ha

/-- A full share of some elements as two halves: one is lent to a transfer, the other reads meanwhile. -/
theorem halve (c : Dev nD) (b : Ref sig .tc) (S : Finset (Idx ((c : Thread nD τ).loc b))) (f : Buf (Elt F) ((c : Thread nD τ).loc b)) :
    own c b S f ⊣⊢ iprop(half c b S f ∗ half' c b S f) := pointsTo_share (PosShare.mem_left_op_right fullShare)

/-- Transfers 12 and 13 start from lent halves, transfer 11 having landed in between; the device's own rows of the result. -/
theorem part15_spec (c : Dev nD) (v14 v17 v33 v38 : BitVec 32) {Q} :
    iprop(env m K ∗ own c cc0_scratch14 (box (a1 c) 384 0 384) (plane (gA m c) 0 0) ∗ any (F := F) (px c) cc0_scratch14 (box (a1 c) 384 0 384)
        ∗ tk (F := F) 12 c ∗ ow (F := F) c 12 ∗ md (F := F) 11 c ∗ any (F := F) (py c) cc0_scratch14 (box (b1 c) 384 384 384) ∗ tk (F := F) 13 c
        ∗ any (F := F) c cc0_stg4_0 (box (a1 c) 384 0 384) ∗ any (F := F) c cc0_stg4_0 (box (b1 c) 384 384 384))
      ⊢ iprop((iprop(md (F := F) 12 c ∗ half' c cc0_scratch14 (box (a1 c) 384 0 384) (plane (gA m c) 0 0) ∗ dn (F := F) 11 c
            ∗ md (F := F) 13 c ∗ half' c cc0_scratch14 (box (b1 c) 384 384 384) (plane (gB m c) 0 0) ∗ ow (F := F) c 14
            ∗ own c cc0_stg4_0 (box (a1 c) 384 0 384) (plane (oA m c) 0 0) ∗ any (F := F) c cc0_stg4_0 (box (b1 c) 384 384 384))
          -∗ Q (plane (oB m c) (b1 c) 384))
        -∗ wpc c (k0_part15 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19
          c v14 v17 v33 v38) Q) := by
  simp only [k0_part15_eq_skeleton]; unfold k0_part15_skel
  simp only [semSignalWord, semWaitWord, Prog.lift, Prog.bind_op, Prog.bind_ret, Prog.pure_eq_ret, wp_deviceId]
  iintro ⟨#HE, Ha, Hl, Ht, HO, Hm, Hl', Ht', ⟨%fo, Ho⟩, ⟨%fp, Hp⟩⟩ Hk
  ihave Ha := (halve (F := F) c _ _ _).1 $$ Ha
  icases Ha with ⟨Ha, Ha'⟩
  iapply (wp_goAg m K 12 c _ (dst12_eq c) (off35 c) (by rfl) (by rfl) (by rfl) (gA m c) fullShare.left
    (Entails.refl _)
    (by rw [dst12_eq c]; show _ ⊢ recvPay m 12 (px c); unfold recvPay; simp only [gA_px, sa1_px]; exact Entails.refl _)
    (Lp := any (F := F) (px c) cc0_scratch14 (box (a1 c) 384 0 384)) (by rw [dst12_eq c]; exact Entails.refl _))
    $$ [Ha Hl Ht HO]
  · isplitr; · iexact HE
    isplitl [Ha]; · iexact Ha
    isplitl [Hl]; · iexact Hl
    isplitl [Ht]; · iexact Ht
    iexact HO
  iintro ⟨Hmd, HO⟩
  iapply (wp_waitS m K 11 13 c (by rfl) (by rfl)) $$ [Hm HO]
  · isplitr; · iexact HE
    isplitl [Hm]; · iexact Hm
    iexact HO
  iintro ⟨Hm, HO, Hb⟩
  iapply (wp_waitR m K 11 13 (by decide) c (by rfl) (by rfl)) $$ [Hm HO]
  · isplitr; · iexact HE
    isplitl [Hm]; · iexact Hm
    iexact HO
  iintro ⟨Hd, HO, Hr⟩
  ihave Hb := (show sendPay m 11 c ⊢ own c cc0_scratch14 (box (b2 c) 192 384 384) (plane (gB m c) 0 0) from Entails.refl _) $$ Hb
  ihave Hr := (show recvPay m 11 c ⊢ own c cc0_scratch14 (box (sb2 c) 192 384 384) (plane (gB m c) 0 0) from Entails.refl _) $$ Hr
  icombine Hr Hb as Hb
  ihave Hb := (split_two (F := F) (half_rows (halves_b2 c) rfl)).2 $$ Hb
  ihave Hb := (halve (F := F) c cc0_scratch14 (box (b1 c) 384 384 384) (plane (gB m c) 0 0)).1 $$ Hb
  icases Hb with ⟨Hb, Hb'⟩
  iapply (wp_goAg m K 13 c _ (dst13_eq c) (off36 c) (by rfl) (by rfl) (by rfl) (gB m c) fullShare.left
    (Entails.refl _)
    (by rw [dst13_eq c]; show _ ⊢ recvPay m 13 (py c); unfold recvPay; simp only [gB_py, sb1_py]; exact Entails.refl _)
    (Lp := any (F := F) (py c) cc0_scratch14 (box (b1 c) 384 384 384)) (by rw [dst13_eq c]; exact Entails.refl _))
    $$ [Hb Hl' Ht' HO]
  · isplitr; · iexact HE
    isplitl [Hb]; · iexact Hb
    isplitl [Hl']; · iexact Hl'
    isplitl [Ht']; · iexact Ht'
    iexact HO
  iintro ⟨Hmd', HO⟩
  iapply (wp_ld c _ _ _ (by rw [unit_set (off10 c)]) (v := plane (gA m c) (a1 c) 0) (by exact win0 _ (off10 c) _)) $$ Ha'; iintro Ha'
  iapply (wp_ld c _ _ _ (by rw [unit_set (off10 c)]) rfl) $$ Ho; iintro Ho
  iapply (wp_st c _ _ _ (plane (oA m c) 0 0) (by exact unit_set (off10 c) _)
    (by exact (win0 _ (off10 c) _).trans (pay24_eq m c _ _).symm)) $$ Ho; iintro Ho
  iapply (wp_ld c _ _ _ (by rw [unit_set (off12 c)]) (v := plane (gB m c) (b1 c) 384) (by exact win0 _ (off12 c) _)) $$ Hb'; iintro Hb'
  iapply (wp_ld c _ _ _ (by rw [unit_set (off12 c)]) rfl) $$ Hp; iintro Hp
  rw [pay25_eq m c]
  iapply wpc_ret
  iapply Hk
  isplitl [Hmd]; · iexact Hmd
  isplitl [Ha']; · iexact Ha'
  isplitl [Hd]; · iexact Hd
  isplitl [Hmd']; · iexact Hmd'
  isplitl [Hb']; · iexact Hb'
  isplitl [HO]; · iexact HO
  isplitl [Ho]; · iexact Ho
  iexists _; iexact Hp

/-- Transfers 12 and 13 have landed; all but the last block of the result. -/
theorem part16_spec (c : Dev nD) (v14 v17 v44 v46 : BitVec 32) {Q} :
    iprop(env m K ∗ any (F := F) c cc0_stg4_0 (box (b1 c) 384 384 384) ∗ md (F := F) 12 c ∗ ow (F := F) c 14
        ∗ half' c cc0_scratch14 (box (a1 c) 384 0 384) (plane (gA m c) 0 0) ∗ any (F := F) c cc0_stg4_0 (box (sa1 c) 384 0 384)
        ∗ md (F := F) 13 c ∗ half' c cc0_scratch14 (box (b1 c) 384 384 384) (plane (gB m c) 0 0))
      ⊢ iprop((iprop(own c cc0_stg4_0 (box (b1 c) 384 384 384) (plane (oB m c) 0 0) ∗ dn (F := F) 12 c ∗ dn (F := F) 13 c ∗ ow (F := F) c 14
            ∗ own c cc0_stg4_0 (box (sa1 c) 384 0 384) (plane (oA m c) 0 0)
            ∗ own c cc0_scratch14 (box 0 768 0 384) (plane (gA m c) 0 0) ∗ own c cc0_scratch14 (box 0 768 384 384) (plane (gB m c) 0 0))
          -∗ Q (plane (oB m c) (sb1 c) 384))
        -∗ wpc c (k0_part16 (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19
          c v14 v17 v44 v46 (plane (oB m c) (b1 c) 384)) Q) := by
  simp only [k0_part16_eq_skeleton]; unfold k0_part16_skel
  simp only [semSignalWord, semWaitWord, Prog.lift, Prog.bind_op, Prog.bind_ret, Prog.pure_eq_ret, wp_deviceId]
  iintro ⟨#HE, ⟨%fp, Hp⟩, Hm, HO, Ha', ⟨%fo, Ho⟩, Hm', Hb'⟩ Hk
  iapply (wp_st c _ _ _ (plane (oB m c) 0 0) (by exact unit_set (off12 c) _) (by exact win0 _ (off12 c) _)) $$ Hp; iintro Hp
  iapply (wp_waitS m K 12 14 c (by rfl) (by rfl)) $$ [Hm HO]
  · isplitr; · iexact HE
    isplitl [Hm]; · iexact Hm
    iexact HO
  iintro ⟨Hm, HO, Ha⟩
  iapply (wp_waitR m K 12 14 (by decide) c (by rfl) (by rfl)) $$ [Hm HO]
  · isplitr; · iexact HE
    isplitl [Hm]; · iexact Hm
    iexact HO
  iintro ⟨Hd, HO, Hr⟩
  ihave Ha := (show sendPay m 12 c ⊢ half c cc0_scratch14 (box (a1 c) 384 0 384) (plane (gA m c) 0 0) from Entails.refl _) $$ Ha
  ihave Hr := (show recvPay m 12 c ⊢ own c cc0_scratch14 (box (sa1 c) 384 0 384) (plane (gA m c) 0 0) from Entails.refl _) $$ Hr
  iapply (wp_ld c _ _ _ (by rw [unit_set (off3 c)]) (v := plane (gA m c) (sa1 c) 0) (by exact win0 _ (off3 c) _)) $$ Hr; iintro Hr
  iapply (wp_ld c _ _ _ (by rw [unit_set (off3 c)]) rfl) $$ Ho; iintro Ho
  iapply (wp_st c _ _ _ (plane (oA m c) 0 0) (by exact unit_set (off3 c) _)
    (by exact (win0 _ (off3 c) _).trans (pay26_eq m c _ _).symm)) $$ Ho; iintro Ho
  iapply (wp_waitS m K 13 14 c (by rfl) (by rfl)) $$ [Hm' HO]
  · isplitr; · iexact HE
    isplitl [Hm']; · iexact Hm'
    iexact HO
  iintro ⟨Hm', HO, Hb⟩
  iapply (wp_waitR m K 13 14 (by decide) c (by rfl) (by rfl)) $$ [Hm' HO]
  · isplitr; · iexact HE
    isplitl [Hm']; · iexact Hm'
    iexact HO
  iintro ⟨Hd', HO, Hq⟩
  ihave Hb := (show sendPay m 13 c ⊢ half c cc0_scratch14 (box (b1 c) 384 384 384) (plane (gB m c) 0 0) from Entails.refl _) $$ Hb
  ihave Hq := (show recvPay m 13 c ⊢ own c cc0_scratch14 (box (sb1 c) 384 384 384) (plane (gB m c) 0 0) from Entails.refl _) $$ Hq
  iapply (wp_ld c _ _ _ (by rw [unit_set (off8 c)]) (v := plane (gB m c) (sb1 c) 384) (by exact win0 _ (off8 c) _)) $$ Hq; iintro Hq
  icombine Ha Ha' as Ha
  icombine Hr Ha as Ha
  ihave Ha := (split_two (F := F) (half_rows (halves_a1 c) (h' := 768) rfl)).2 $$ Ha
  icombine Hb Hb' as Hb
  icombine Hq Hb as Hb
  ihave Hb := (split_two (F := F) (half_rows (halves_b1 c) (h' := 768) rfl)).2 $$ Hb
  rw [pay27_eq m c]
  iapply wpc_ret
  iapply Hk
  isplitl [Hp]; · iexact Hp
  isplitl [Hd]; · iexact Hd
  isplitl [Hd']; · iexact Hd'
  isplitl [HO]; · iexact HO
  isplitl [Ho]; · iexact Ho
  isplitl [Ha]; · iexact Ha
  iexact Hb

end Cert.KernelIdeal.Proto

end
-- ==== Proof.KI.Body4.lean ====
/-
# The body whole

What a device holds is cut into the windows its transfers move, the sixteen parts run one after the other, and the
windows are put together again.
-/
module

public import proofs.«01_k».proof.Proof.KI.Body3

@[expose] public section

set_option maxRecDepth 8000

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Bool × Fin 14) → ℕ)

/-- A program run after another. -/
theorem wpc_seq (c : Dev nD) {α β : Type} {p : Prog (TpuEff nD τ sig (Elt F) Λ₀ .tc) α} {k : α → Prog (TpuEff nD τ sig (Elt F) Λ₀ .tc) β}
    {Q : β → sProp 𝕄} : wpc c p (fun a => wpc c (k a) Q) ⊢ wpc c (p >>= k) Q := by
  unfold wpc
  rw [wp_bind_eq]
  exact Entails.refl _

/-! ## Cutting and joining -/

omit [FloatOps F] in
theorem any_split {c : Dev nD} {b : Ref sig .tc} {X Y Z : Finset (Idx ((c : Thread nD τ).loc b))} (h : Disjoint Y Z ∧ X = Y ∪ Z) :
    any (F := F) c b X ⊢ iprop(any (F := F) c b Y ∗ any (F := F) c b Z) := by
  iintro ⟨%f, H⟩
  ihave H := (split_two (F := F) h).1 $$ H
  icases H with ⟨H1, H2⟩
  isplitl [H1]
  · iexists f; iexact H1
  · iexists f; iexact H2

omit [FloatOps F] in
theorem acc_split (c : Dev nD) : any (F := F) c cc0_scratch0 Finset.univ ⊢ iprop(any (F := F) c cc0_scratch0 (box (sa1 c) 384 0 384)
    ∗ any (F := F) c cc0_scratch0 (box (a1 c) 384 0 384) ∗ any (F := F) c cc0_scratch0 (box (sb1 c) 384 384 384)
    ∗ any (F := F) c cc0_scratch0 (box (b1 c) 384 384 384)) := by
  iintro H
  ihave H := (any_split (F := F) (c := c) (b := cc0_scratch0) univ_cols) $$ H
  icases H with ⟨HA, HB⟩
  ihave HA := (any_split (F := F) (c := c) (b := cc0_scratch0) (half_rows (halves_a1 c) (h' := 768) rfl)) $$ HA
  icases HA with ⟨H1, H2⟩
  ihave HB := (any_split (F := F) (c := c) (b := cc0_scratch0) (half_rows (halves_b1 c) (h' := 768) rfl)) $$ HB
  icases HB with ⟨H3, H4⟩
  isplitl [H1]; · iexact H1
  isplitl [H2]; · iexact H2
  isplitl [H3]; · iexact H3
  iexact H4

omit [FloatOps F] in
theorem out_split (c : Dev nD) : any (F := F) c cc0_stg4_0 Finset.univ ⊢ iprop(any (F := F) c cc0_stg4_0 (box (sa1 c) 384 0 384)
    ∗ any (F := F) c cc0_stg4_0 (box (a1 c) 384 0 384) ∗ any (F := F) c cc0_stg4_0 (box (sb1 c) 384 384 384)
    ∗ any (F := F) c cc0_stg4_0 (box (b1 c) 384 384 384)) := by
  iintro H
  ihave H := (any_split (F := F) (c := c) (b := cc0_stg4_0) univ_cols) $$ H
  icases H with ⟨HA, HB⟩
  ihave HA := (any_split (F := F) (c := c) (b := cc0_stg4_0) (half_rows (halves_a1 c) (h' := 768) rfl)) $$ HA
  icases HA with ⟨H1, H2⟩
  ihave HB := (any_split (F := F) (c := c) (b := cc0_stg4_0) (half_rows (halves_b1 c) (h' := 768) rfl)) $$ HB
  icases HB with ⟨H3, H4⟩
  isplitl [H1]; · iexact H1
  isplitl [H2]; · iexact H2
  isplitl [H3]; · iexact H3
  iexact H4

omit [FloatOps F] in
theorem h_split (c : Dev nD) : any (F := F) c cc0_scratch1 Finset.univ ⊢ iprop(any (F := F) c cc0_scratch1 (box (sa1 c) 384 0 1536)
    ∗ any (F := F) c cc0_scratch1 (box (a1 c) 384 0 1536)) :=
  any_split (F := F) (c := c) (b := cc0_scratch1) (rows_split (w := 1536) (halves_a1 c))

omit [FloatOps F] in
/-- The gathered plane: what each partner will write, and the two tiles the device finishes itself. -/
theorem ag_split (c : Dev nD) : any (F := F) c cc0_scratch14 Finset.univ ⊢ iprop(land (F := F) 8 c ∗ land (F := F) 9 c ∗ land (F := F) 10 c
    ∗ land (F := F) 11 c ∗ land (F := F) 12 c ∗ land (F := F) 13 c
    ∗ any (F := F) c cc0_scratch14 (box (a3 c) 96 0 384) ∗ any (F := F) c cc0_scratch14 (box (b3 c) 96 384 384)) := by
  unfold land
  iintro H
  ihave H := (any_split (F := F) (c := c) (b := cc0_scratch14) univ_cols) $$ H
  icases H with ⟨HA, HB⟩
  ihave HA := (any_split (F := F) (c := c) (b := cc0_scratch14) (half_rows (halves_a1 c) (h' := 768) rfl)) $$ HA
  icases HA with ⟨A1, HA⟩
  ihave HA := (any_split (F := F) (c := c) (b := cc0_scratch14) (half_rows (halves_a2 c) (h' := 384) rfl)) $$ HA
  icases HA with ⟨A2, HA⟩
  ihave HA := (any_split (F := F) (c := c) (b := cc0_scratch14) (half_rows (halves_a3 c) (h' := 192) rfl)) $$ HA
  icases HA with ⟨A3, HA⟩
  ihave HB := (any_split (F := F) (c := c) (b := cc0_scratch14) (half_rows (halves_b1 c) (h' := 768) rfl)) $$ HB
  icases HB with ⟨B1, HB⟩
  ihave HB := (any_split (F := F) (c := c) (b := cc0_scratch14) (half_rows (halves_b2 c) (h' := 384) rfl)) $$ HB
  icases HB with ⟨B2, HB⟩
  ihave HB := (any_split (F := F) (c := c) (b := cc0_scratch14) (half_rows (halves_b3 c) (h' := 192) rfl)) $$ HB
  icases HB with ⟨B3, HB⟩
  isplitl [A3]; · iexact A3
  isplitl [B3]; · iexact B3
  isplitl [A2]; · iexact A2
  isplitl [B2]; · iexact B2
  isplitl [A1]; · iexact A1
  isplitl [B1]; · iexact B1
  isplitl [HA]; · iexact HA
  iexact HB

omit [FloatOps F] in
theorem acc_join (c : Dev nD) : iprop(any (F := F) c cc0_scratch0 (box (sa1 c) 384 0 384)
    ∗ any (F := F) c cc0_scratch0 (box (sa2 c) 192 0 384) ∗ any (F := F) c cc0_scratch0 (box (sa3 c) 96 0 384)
    ∗ any (F := F) c cc0_scratch0 (box (a3 c) 96 0 384)
    ∗ any (F := F) c cc0_scratch0 (box (sb1 c) 384 384 384)
    ∗ any (F := F) c cc0_scratch0 (box (sb2 c) 192 384 384) ∗ any (F := F) c cc0_scratch0 (box (sb3 c) 96 384 384)
    ∗ any (F := F) c cc0_scratch0 (box (b3 c) 96 384 384)) ⊢ any (F := F) c cc0_scratch0 Finset.univ := by
  iintro ⟨A1, A2, A3, A4, B1, B2, B3, B4⟩
  iapply (join_some (F := F) univ_cols)
  isplitl [A1 A2 A3 A4]
  · iapply (join_some (F := F) (half_rows (halves_a1 c) (h' := 768) rfl))
    isplitl [A1]; · iexact A1
    iapply (join_some (F := F) (half_rows (halves_a2 c) (h' := 384) rfl))
    isplitl [A2]; · iexact A2
    iapply (join_some (F := F) (half_rows (halves_a3 c) (h' := 192) rfl))
    isplitl [A3]; · iexact A3
    iexact A4
  · iapply (join_some (F := F) (half_rows (halves_b1 c) (h' := 768) rfl))
    isplitl [B1]; · iexact B1
    iapply (join_some (F := F) (half_rows (halves_b2 c) (h' := 384) rfl))
    isplitl [B2]; · iexact B2
    iapply (join_some (F := F) (half_rows (halves_b3 c) (h' := 192) rfl))
    isplitl [B3]; · iexact B3
    iexact B4

theorem oV_left (c : Dev nD) (i : S768x768.Idx) (h : (i 1).val < 0 + 384) : plane (n := 768) (m := 768) (oA m c) 0 0 i = oV m c i := by
  show oA m c (0 + _) (0 + _) = if _ then _ else _
  rw [if_pos (by omega), Nat.zero_add, Nat.zero_add]
theorem oV_right (c : Dev nD) (i : S768x768.Idx) (h : 384 ≤ (i 1).val) : plane (n := 768) (m := 768) (oB m c) 0 0 i = oV m c i := by
  show oB m c (0 + _) (0 + _) = if _ then _ else _
  rw [if_neg (by omega), Nat.zero_add, Nat.zero_add]

/-- The four blocks of the result are the result. -/
theorem out_join (c : Dev nD) : iprop(own c cc0_stg4_0 (box (sa1 c) 384 0 384) (plane (oA m c) 0 0)
    ∗ own c cc0_stg4_0 (box (a1 c) 384 0 384) (plane (oA m c) 0 0) ∗ own c cc0_stg4_0 (box (sb1 c) 384 384 384) (plane (oB m c) 0 0)
    ∗ own c cc0_stg4_0 (box (b1 c) 384 384 384) (plane (oB m c) 0 0)) ⊢ all c cc0_stg4_0 (oV m c) := by
  have hA : own c cc0_stg4_0 (box 0 768 0 384) (plane (oA m c) 0 0) = own c cc0_stg4_0 (box 0 768 0 384) (oV m c) :=
    pointsTo_congr fun i hi => oV_left m c i (mem_box.mp hi).2.2
  have hB : own c cc0_stg4_0 (box 0 768 384 384) (plane (oB m c) 0 0) = own c cc0_stg4_0 (box 0 768 384 384) (oV m c) :=
    pointsTo_congr fun i hi => oV_right m c i (mem_box.mp hi).2.1
  iintro ⟨H1, H2, H3, H4⟩
  icombine H1 H2 as HA
  ihave HA := (split_two (F := F) (half_rows (halves_a1 c) (h' := 768) rfl)).2 $$ HA
  icombine H3 H4 as HB
  ihave HB := (split_two (F := F) (half_rows (halves_b1 c) (h' := 768) rfl)).2 $$ HB
  ihave HA := (Entails.of_eq hA) $$ HA
  ihave HB := (Entails.of_eq hB) $$ HB
  iapply (split_two (F := F) univ_cols).2
  isplitl [HA]; · iexact HA
  iexact HB

/-! ## What the signals hand over -/

omit [FloatOps F] in
theorem give0_intro (c : Dev nD) : iprop(any (F := F) c cc0_scratch6 Finset.univ ∗ any (F := F) c cc0_scratch11 Finset.univ
    ∗ land (F := F) 11 c ∗ land (F := F) 12 c) ⊢ give (F := F) 0 c := Entails.refl _
omit [FloatOps F] in
theorem give1_intro (c : Dev nD) : iprop(any (F := F) c cc0_scratch10 Finset.univ ∗ any (F := F) c cc0_scratch7 Finset.univ
    ∗ land (F := F) 10 c ∗ land (F := F) 13 c) ⊢ give (F := F) 1 c := Entails.refl _
omit [FloatOps F] in
theorem give2_intro (c : Dev nD) : iprop(any (F := F) c cc0_scratch8 Finset.univ ∗ any (F := F) c cc0_scratch12 Finset.univ
    ∗ land (F := F) 8 c ∗ land (F := F) 9 c) ⊢ give (F := F) 2 c := Entails.refl _
omit [FloatOps F] in
theorem give3_intro (c : Dev nD) : iprop(any (F := F) c cc0_scratch9 Finset.univ ∗ any (F := F) c cc0_scratch13 Finset.univ)
    ⊢ give (F := F) 3 c := Entails.refl _

omit [FloatOps F] in
theorem give0_px (c : Dev nD) : give (F := F) 0 (px c) ⊢ iprop(any (F := F) (px c) cc0_scratch6 Finset.univ
    ∗ any (F := F) (px c) cc0_scratch11 Finset.univ ∗ any (F := F) (px c) cc0_scratch14 (box (b2 c) 192 384 384)
    ∗ any (F := F) (px c) cc0_scratch14 (box (a1 c) 384 0 384)) := by
  unfold give land; simp only [sb2_px, sa1_px]; exact Entails.refl _
omit [FloatOps F] in
theorem give1_py (c : Dev nD) : give (F := F) 1 (py c) ⊢ iprop(any (F := F) (py c) cc0_scratch10 Finset.univ
    ∗ any (F := F) (py c) cc0_scratch7 Finset.univ ∗ any (F := F) (py c) cc0_scratch14 (box (a2 c) 192 0 384)
    ∗ any (F := F) (py c) cc0_scratch14 (box (b1 c) 384 384 384)) := by
  unfold give land; simp only [sa2_py, sb1_py]; exact Entails.refl _
omit [FloatOps F] in
theorem give2_pz (c : Dev nD) : give (F := F) 2 (pz c) ⊢ iprop(any (F := F) (pz c) cc0_scratch8 Finset.univ
    ∗ any (F := F) (pz c) cc0_scratch12 Finset.univ ∗ any (F := F) (pz c) cc0_scratch14 (box (a3 c) 96 0 384)
    ∗ any (F := F) (pz c) cc0_scratch14 (box (b3 c) 96 384 384)) := by
  unfold give land; simp only [sa3_pz, sb3_pz]; exact Entails.refl _
omit [FloatOps F] in
theorem give3_pw (c : Dev nD) : give (F := F) 3 (pw c) ⊢ iprop(any (F := F) (pw c) cc0_scratch9 Finset.univ
    ∗ any (F := F) (pw c) cc0_scratch13 Finset.univ) := Entails.refl _

/-! ## The run -/

/-- The scratch buffers. -/
def scr (c : Dev nD) : sProp 𝕄 :=
  iprop(any (F := F) c cc0_scratch0 Finset.univ ∗ any (F := F) c cc0_scratch1 Finset.univ ∗ any (F := F) c cc0_scratch2 Finset.univ
    ∗ any (F := F) c cc0_scratch3 Finset.univ ∗ any (F := F) c cc0_scratch4 Finset.univ ∗ any (F := F) c cc0_scratch5 Finset.univ
    ∗ any (F := F) c cc0_scratch6 Finset.univ ∗ any (F := F) c cc0_scratch7 Finset.univ ∗ any (F := F) c cc0_scratch8 Finset.univ
    ∗ any (F := F) c cc0_scratch9 Finset.univ ∗ any (F := F) c cc0_scratch10 Finset.univ ∗ any (F := F) c cc0_scratch11 Finset.univ
    ∗ any (F := F) c cc0_scratch12 Finset.univ ∗ any (F := F) c cc0_scratch13 Finset.univ ∗ any (F := F) c cc0_scratch14 Finset.univ)
/-- What a device holds for its fourteen transfers before them. -/
def tks (c : Dev nD) : sProp 𝕄 :=
  iprop(tk (F := F) 0 c ∗ tk (F := F) 1 c ∗ tk (F := F) 2 c ∗ tk (F := F) 3 c ∗ tk (F := F) 4 c ∗ tk (F := F) 5 c ∗ tk (F := F) 6 c
    ∗ tk (F := F) 7 c ∗ tk (F := F) 8 c ∗ tk (F := F) 9 c ∗ tk (F := F) 10 c ∗ tk (F := F) 11 c ∗ tk (F := F) 12 c ∗ tk (F := F) 13 c)
/-- And after them. -/
def dns (c : Dev nD) : sProp 𝕄 :=
  iprop(dn (F := F) 0 c ∗ dn (F := F) 1 c ∗ dn (F := F) 2 c ∗ dn (F := F) 3 c ∗ dn (F := F) 4 c ∗ dn (F := F) 5 c ∗ dn (F := F) 6 c
    ∗ dn (F := F) 7 c ∗ dn (F := F) 8 c ∗ dn (F := F) 9 c ∗ dn (F := F) 10 c ∗ dn (F := F) 11 c ∗ dn (F := F) 12 c ∗ dn (F := F) 13 c)

/-- The body: from the inputs in the staging buffers to the result in its own. -/
theorem body_spec (c : Dev nD) {Q : PUnit → sProp 𝕄} :
    iprop((env m K ∗ bt (F := F) 0 c ∗ bt (F := F) 1 c ∗ bt (F := F) 2 c ∗ bt (F := F) 3 c ∗ tks (F := F) c
        ∗ cred (tallyAt (barCell c) () 4) ∗ atPos ER (barCell c) 0 ∅ 0 ∗ owb (F := F) c 0
        ∗ all c cc0_stg0_0 (xS m c) ∗ all c cc0_stg1_0 (gS m c) ∗ all c cc0_stg2_0 (uS m c) ∗ all c cc0_stg3_0 (dS m c)
        ∗ any (F := F) c cc0_stg4_0 Finset.univ ∗ scr (F := F) c)
        ∗ (iprop(all c cc0_stg0_0 (xS m c) ∗ all c cc0_stg1_0 (gS m c) ∗ all c cc0_stg2_0 (uS m c) ∗ all c cc0_stg3_0 (dS m c)
            ∗ all c cc0_stg4_0 (oV m c) ∗ dns (F := F) c ∗ atPos ER (barCell c) (0 + 1) ∅ 0 ∗ ow (F := F) c 14 ∗ scr (F := F) c) -∗ Q ⟨⟩))
      ⊢ wpc c (cc0_body (F := F)
          (Memref.whole cc0_stg0_0) (Memref.isWhole_whole _) (Memref.whole cc0_stg1_0) (Memref.isWhole_whole _) (Memref.whole cc0_stg2_0) (Memref.isWhole_whole _)
          (Memref.whole cc0_stg3_0) (Memref.isWhole_whole _) (Memref.whole cc0_stg4_0) (Memref.isWhole_whole _) (Memref.whole cc0_scratch0) (Memref.isWhole_whole _)
          (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _)
          (Memref.whole cc0_scratch7) (Memref.isWhole_whole _) (Memref.whole cc0_scratch8) (Memref.isWhole_whole _) (Memref.whole cc0_scratch9) (Memref.isWhole_whole _)
          (Memref.whole cc0_scratch10) (Memref.isWhole_whole _) (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19) Q := by
  rw [cc0_body_eq_skeleton]; unfold cc0_body_skel tks scr
  iintro ⟨⟨#HE, B0, B1, B2, B3, ⟨T0, T1, T2, T3, T4, T5, T6, T7, T8, T9, T10, T11, T12, T13⟩, Hcb, Hat, HO, X, G, U, D, Out,
    S0, S1, S2, S3, S4, S5, S6, S7, S8, S9, S10, S11, S12, S13, S14⟩, Hk⟩
  ihave S14 := (ag_split (F := F) c) $$ S14
  icases S14 with ⟨L8, L9, L10, L11, L12, L13, Ga, Gb⟩
  ihave S0 := (acc_split (F := F) c) $$ S0
  icases S0 with ⟨Asa, Aa, Asb, Ab⟩
  ihave S1 := (h_split (F := F) c) $$ S1
  icases S1 with ⟨Hsa, Ha⟩
  ihave Out := (out_split (F := F) c) $$ Out
  icases Out with ⟨Osa, Oa, Osb, Ob⟩
  ihave Gi0 := (give0_intro (F := F) c) $$ [S6 S11 L11 L12]
  · isplitl [S6]; · iexact S6
    isplitl [S11]; · iexact S11
    isplitl [L11]; · iexact L11
    iexact L12
  ihave Gi1 := (give1_intro (F := F) c) $$ [S10 S7 L10 L13]
  · isplitl [S10]; · iexact S10
    isplitl [S7]; · iexact S7
    isplitl [L10]; · iexact L10
    iexact L13
  ihave Gi2 := (give2_intro (F := F) c) $$ [S8 S12 L8 L9]
  · isplitl [S8]; · iexact S8
    isplitl [S12]; · iexact S12
    isplitl [L8]; · iexact L8
    iexact L9
  ihave Gi3 := (give3_intro (F := F) c) $$ [S9 S13]
  · isplitl [S9]; · iexact S9
    iexact S13
  iapply (wpc_seq c)
  iapply (part1_spec m K c ) $$ [B0 Gi0 B1 Gi1 HO]
  · isplitr; · iexact HE
    isplitl [B0]; · iexact B0
    isplitl [Gi0]; · iexact Gi0
    isplitl [B1]; · iexact B1
    isplitl [Gi1]; · iexact Gi1
    iexact HO
  iintro %v8 %v10 %v11 %v14 %v17 %v20 %v23 HO
  try dsimp only
  iapply (wpc_seq c)
  iapply (part2_spec m K c _ _ _ _ _) $$ [B2 Gi2 B3 Gi3 HO X S2 G S3]
  · isplitr; · iexact HE
    isplitl [B2]; · iexact B2
    isplitl [Gi2]; · iexact Gi2
    isplitl [B3]; · iexact B3
    isplitl [Gi3]; · iexact Gi3
    isplitl [HO]; · iexact HO
    isplitl [X]; · iexact X
    isplitl [S2]; · iexact S2
    isplitl [G]; · iexact G
    iexact S3
  iintro %v33 %v35 %v37 %v38 %v40 %v42 %v44 %v46 ⟨HO, X, S2, G, S3⟩
  try dsimp only
  iapply (wpc_seq c)
  iapply (part3_spec m K c _) $$ [S3 U S4 D S5 Hsa Asa Hcb Hat HO]
  · isplitr; · iexact HE
    isplitl [S3]; · iexact S3
    isplitl [U]; · iexact U
    isplitl [S4]; · iexact S4
    isplitl [D]; · iexact D
    isplitl [S5]; · iexact S5
    isplitl [Hsa]; · iexact Hsa
    isplitl [Asa]; · iexact Asa
    isplitl [Hcb]; · iexact Hcb
    isplitl [Hat]; · iexact Hat
    iexact HO
  iintro ⟨S3, U, S4, D, S5, Hsa, Asa, HO, Hat, Gx, Gy, Gz, Gw⟩
  try dsimp only
  ihave Gx := (give0_px (F := F) c) $$ Gx
  icases Gx with ⟨P6, P11, Px11, Px12⟩
  ihave Gy := (give1_py (F := F) c) $$ Gy
  icases Gy with ⟨P10, P7, Py10, Py13⟩
  ihave Gz := (give2_pz (F := F) c) $$ Gz
  icases Gz with ⟨P8, P12, Pz8, Pz9⟩
  ihave Gw := (give3_pw (F := F) c) $$ Gw
  icases Gw with ⟨P9, P13⟩
  iapply (wpc_seq c)
  iapply (part4_spec m K c _ _ _ _) $$ [Asa P6 T0 HO S2 S3 S4 S5 Hsa Ha Asb]
  · isplitr; · iexact HE
    isplitl [Asa]; · iexact Asa
    isplitl [P6]; · iexact P6
    isplitl [T0]; · iexact T0
    isplitl [HO]; · iexact HO
    isplitl [S2]; · iexact S2
    isplitl [S3]; · iexact S3
    isplitl [S4]; · iexact S4
    isplitl [S5]; · iexact S5
    isplitl [Hsa]; · iexact Hsa
    isplitl [Ha]; · iexact Ha
    iexact Asb
  iintro ⟨M0, HO, S2, S3, S4, S5, S1, Asb⟩
  try dsimp only
  iapply (wpc_seq c)
  iapply (part5_spec m K c _ _ _ _ _) $$ [Asb P10 T1 HO S1 S5 Aa Ab M0]
  · isplitr; · iexact HE
    isplitl [Asb]; · iexact Asb
    isplitl [P10]; · iexact P10
    isplitl [T1]; · iexact T1
    isplitl [HO]; · iexact HO
    isplitl [S1]; · iexact S1
    isplitl [S5]; · iexact S5
    isplitl [Aa]; · iexact Aa
    isplitl [Ab]; · iexact Ab
    iexact M0
  iintro %v151 %v154 ⟨M1, HO, S1, S5, Aa, Ab, M0, Asa⟩
  try dsimp only
  iapply (wpc_seq c)
  iapply (part6_spec m K c _ _ _ _) $$ [M0 HO Aa P7 T2 M1]
  · isplitr; · iexact HE
    isplitl [M0]; · iexact M0
    isplitl [HO]; · iexact HO
    isplitl [Aa]; · iexact Aa
    isplitl [P7]; · iexact P7
    isplitl [T2]; · iexact T2
    iexact M1
  iintro %v194 %w0 ⟨N0, S6, Aa, M2, HO, M1, Asb⟩
  try dsimp only
  iapply (wpc_seq c)
  iapply (part7_spec m K c _ _ _ _ _ _ _ _) $$ [M1 HO Ab P11 T3]
  · isplitr; · iexact HE
    isplitl [M1]; · iexact M1
    isplitl [HO]; · iexact HO
    isplitl [Ab]; · iexact Ab
    isplitl [P11]; · iexact P11
    iexact T3
  iintro %v229 %v231 ⟨N1, S10, Ab, M3, HO⟩
  try dsimp only
  iapply (wpc_seq c)
  iapply (part8_spec m K c _ _ _ _ _ _ _) $$ [M2 HO Aa P8 T4]
  · isplitr; · iexact HE
    isplitl [M2]; · iexact M2
    isplitl [HO]; · iexact HO
    isplitl [Aa]; · iexact Aa
    isplitl [P8]; · iexact P8
    iexact T4
  iintro %v232 ⟨N2, Asa2, S7, M4, HO, Aa⟩
  try dsimp only
  iapply (wpc_seq c)
  iapply (part9_spec m K c _ _ _ _ _) $$ [Aa M3 HO Ab P12 T5]
  · isplitr; · iexact HE
    isplitl [Aa]; · iexact Aa
    isplitl [M3]; · iexact M3
    isplitl [HO]; · iexact HO
    isplitl [Ab]; · iexact Ab
    isplitl [P12]; · iexact P12
    iexact T5
  iintro ⟨Aa, N3, Asb2, S11, M5, HO, Ab⟩
  try dsimp only
  iapply (wpc_seq c)
  iapply (part10_spec m K c _ _ _ _) $$ [S11 Ab M4 HO Aa P9 T6]
  · isplitr; · iexact HE
    isplitl [S11]; · iexact S11
    isplitl [Ab]; · iexact Ab
    isplitl [M4]; · iexact M4
    isplitl [HO]; · iexact HO
    isplitl [Aa]; · iexact Aa
    isplitl [P9]; · iexact P9
    iexact T6
  iintro ⟨S11, Ab, N4, Asa3, S8, M6, HO⟩
  try dsimp only
  iapply (wpc_seq c)
  iapply (part11_spec m K c _ _ _ _) $$ [M5 HO Ab P13 T7 M6]
  · isplitr; · iexact HE
    isplitl [M5]; · iexact M5
    isplitl [HO]; · iexact HO
    isplitl [Ab]; · iexact Ab
    isplitl [P13]; · iexact P13
    isplitl [T7]; · iexact T7
    iexact M6
  iintro ⟨N5, Asb3, S12, M7, HO, N6, Aa, S9⟩
  try dsimp only
  iapply (wpc_seq c)
  iapply (part12_spec m K c _ _ _ _) $$ [Aa S9 Ga Pz8 T8 HO M7 Gb]
  · isplitr; · iexact HE
    isplitl [Aa]; · iexact Aa
    isplitl [S9]; · iexact S9
    isplitl [Ga]; · iexact Ga
    isplitl [Pz8]; · iexact Pz8
    isplitl [T8]; · iexact T8
    isplitl [HO]; · iexact HO
    isplitl [M7]; · iexact M7
    iexact Gb
  iintro ⟨Aa, S9, M8, HO, N7, Ab, S13, Gb⟩
  try dsimp only
  iapply (wpc_seq c)
  iapply (part13_spec m K c _ _) $$ [Gb Pz9 T9 HO M8 Py10 T10]
  · isplitr; · iexact HE
    isplitl [Gb]; · iexact Gb
    isplitl [Pz9]; · iexact Pz9
    isplitl [T9]; · iexact T9
    isplitl [HO]; · iexact HO
    isplitl [M8]; · iexact M8
    isplitl [Py10]; · iexact Py10
    iexact T10
  iintro ⟨M9, HO, N8, M10⟩
  try dsimp only
  iapply (wpc_seq c)
  iapply (part14_spec m K c _ _ _) $$ [M9 HO Px11 T11 M10]
  · isplitr; · iexact HE
    isplitl [M9]; · iexact M9
    isplitl [HO]; · iexact HO
    isplitl [Px11]; · iexact Px11
    isplitl [T11]; · iexact T11
    iexact M10
  iintro ⟨N9, M11, HO, N10, Ga⟩
  try dsimp only
  iapply (wpc_seq c)
  iapply (part15_spec m K c _ _ _ _) $$ [Ga Px12 T12 HO M11 Py13 T13 Oa Ob]
  · isplitr; · iexact HE
    isplitl [Ga]; · iexact Ga
    isplitl [Px12]; · iexact Px12
    isplitl [T12]; · iexact T12
    isplitl [HO]; · iexact HO
    isplitl [M11]; · iexact M11
    isplitl [Py13]; · iexact Py13
    isplitl [T13]; · iexact T13
    isplitl [Oa]; · iexact Oa
    iexact Ob
  iintro ⟨M12, Ga, N11, M13, Gb, HO, Oa, Ob⟩
  try dsimp only
  iapply (wpc_seq c)
  iapply (part16_spec m K c _ _ _ _) $$ [Ob M12 HO Ga Osa M13 Gb]
  · isplitr; · iexact HE
    isplitl [Ob]; · iexact Ob
    isplitl [M12]; · iexact M12
    isplitl [HO]; · iexact HO
    isplitl [Ga]; · iexact Ga
    isplitl [Osa]; · iexact Osa
    isplitl [M13]; · iexact M13
    iexact Gb
  iintro ⟨Ob, N12, N13, HO, Osa, Ga, Gb⟩
  try dsimp only
  simp only [Prog.lift, Prog.bind_op, Prog.bind_ret, Prog.pure_eq_ret]
  icases Osb with ⟨%fo, Osb⟩
  iapply (wp_ld c _ _ _ (by rw [unit_set (off8 c)]) rfl) $$ Osb; iintro Osb
  iapply (wp_st c _ _ _ (plane (oB m c) 0 0) (by exact unit_set (off8 c) _) (by exact win0 _ (off8 c) _)) $$ Osb; iintro Osb
  iapply wpc_ret
  iapply Hk
  isplitl [X]; · iexact X
  isplitl [G]; · iexact G
  isplitl [U]; · iexact U
  isplitl [D]; · iexact D
  isplitl [Osa Oa Osb Ob]
  · iapply (out_join m c)
    isplitl [Osa]; · iexact Osa
    isplitl [Oa]; · iexact Oa
    isplitl [Osb]; · iexact Osb
    iexact Ob
  isplitl [N0 N1 N2 N3 N4 N5 N6 N7 N8 N9 N10 N11 N12 N13]
  · unfold dns
    isplitl [N0]; · iexact N0
    isplitl [N1]; · iexact N1
    isplitl [N2]; · iexact N2
    isplitl [N3]; · iexact N3
    isplitl [N4]; · iexact N4
    isplitl [N5]; · iexact N5
    isplitl [N6]; · iexact N6
    isplitl [N7]; · iexact N7
    isplitl [N8]; · iexact N8
    isplitl [N9]; · iexact N9
    isplitl [N10]; · iexact N10
    isplitl [N11]; · iexact N11
    isplitl [N12]; · iexact N12
    iexact N13
  isplitl [Hat]; · iexact Hat
  isplitl [HO]; · iexact HO
  isplitl [Asa Asa2 Asa3 Aa Asb Asb2 Asb3 Ab]
  · iapply (acc_join (F := F) c)
    isplitl [Asa]; · iexists _; iexact Asa
    isplitl [Asa2]; · iexists _; iexact Asa2
    isplitl [Asa3]; · iexists _; iexact Asa3
    isplitl [Aa]; · iexists _; iexact Aa
    isplitl [Asb]; · iexists _; iexact Asb
    isplitl [Asb2]; · iexists _; iexact Asb2
    isplitl [Asb3]; · iexists _; iexact Asb3
    iexists _; iexact Ab
  isplitl [S1]; · iexists _; iexact S1
  isplitl [S2]; · iexists _; iexact S2
  isplitl [S3]; · iexists _; iexact S3
  isplitl [S4]; · iexists _; iexact S4
  isplitl [S5]; · iexists _; iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  iapply (join_two (F := F) univ_cols)
  isplitl [Ga]; · iexact Ga
  iexact Gb

end Cert.KernelIdeal.Proto

end
-- ==== Proof.KI.Launch.lean ====
/-
# The launch

From the memory before the run to the body's start on every device, and from the body's end to the memory after it:
the cells are allocated for all devices at once, the right to pay each duty goes to the device that pays it, and the
credit of the launch is each device's dues to its partners, read from the receiving side.
-/
module

public import proofs.«01_k».proof.Proof.KI.Body4
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

set_option maxRecDepth 8000

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state before the run. -/
def s₀ : MemSt nD τ sig (Elt F) := ⟨m, fun _ => 0, ρ⟩

/-! ## The pipeline's data and the body's obligation -/

/-- What a device's body starts from, besides its buffers. -/
def start (c : Dev nD) : sProp 𝕄 :=
  iprop((∃ K, env m K) ∗ (bt (F := F) 0 c ∗ bt (F := F) 1 c ∗ bt (F := F) 2 c ∗ bt (F := F) 3 c) ∗ tks (F := F) c
    ∗ cred (tallyAt (barCell c) () 4) ∗ atPos ER (barCell c) 0 ∅ 0)

/-- Before the body. -/
def Φ₀ (c : Dev nD) : sProp 𝕄 := iprop(start m c ∗ scr (F := F) c)
/-- After it: every semaphore at zero again. -/
def Φ₁ (c : Dev nD) : sProp 𝕄 :=
  iprop(scr (F := F) c ∗ (bigSep Finset.univ fun i : Bool × Fin 14 => semVal (kcell (c, some i)) 0) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xS m c
    | ⟨1, _⟩ => gS m c
    | ⟨2, _⟩ => uS m c
    | ⟨3, _⟩ => dS m c
    | ⟨4, _⟩ => oV m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`, as the pipeline states it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_all (c : Dev nD) (b : Ref sig .tc) (X : b.ty.Contents (Elt F)) : stg (F := F) c b X ⊢ all c b X := by
  iintro ⟨%f, %hf, H⟩
  subst hf
  iexact H
omit [FloatOps F] in
theorem all_stg (c : Dev nD) (b : Ref sig .tc) (X : b.ty.Contents (Elt F)) : all (F := F) c b X ⊢ stg c b X := by
  iintro H
  iexists X
  isplitr; · (ipureintro; rfl)
  iexact H

def bodyPre (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(Φ₁ (F := F) c ∗ (dats m 0 c).owesAt () t0_0.succ
    ∗ stg c cc0_stg0_0 (xS m c) ∗ stg c cc0_stg1_0 (gS m c) ∗ stg c cc0_stg2_0 (uS m c) ∗ stg c cc0_stg3_0 (dS m c) ∗ stg c cc0_stg4_0 (oV m c))

theorem before_0 (c : Dev nD) (d) : (dats m 0 c).before (0 : Fin 5) t0_0 d = xS m c := by
  unfold Dat.before; rw [if_pos (fetch0_0 t0_0)]; rfl
theorem before_1 (c : Dev nD) (d) : (dats m 0 c).before (1 : Fin 5) t0_0 d = gS m c := by
  unfold Dat.before; rw [if_pos (fetch0_1 t0_0)]; rfl
theorem before_2 (c : Dev nD) (d) : (dats m 0 c).before (2 : Fin 5) t0_0 d = uS m c := by
  unfold Dat.before; rw [if_pos (fetch0_2 t0_0)]; rfl
theorem before_3 (c : Dev nD) (d) : (dats m 0 c).before (3 : Fin 5) t0_0 d = dS m c := by
  unfold Dat.before; rw [if_pos (fetch0_3 t0_0)]; rfl

/-! ## Conjunctions over the semaphores -/

omit [FloatOps F] in
theorem bigSep_option {I : Type} [Fintype I] [DecidableEq I] (Φ : Option I → sProp 𝕄) :
    bigSep Finset.univ Φ = iprop(Φ none ∗ bigSep Finset.univ fun i => Φ (some i)) := by
  have h : (Finset.univ : Finset (Option I)) = insert none (Finset.univ.map Function.Embedding.some) := by
    ext o; cases o <;> simp
  rw [h, bigSep_insert (by simp), bigSep_map]; rfl

omit [FloatOps F] in
theorem bigSep_ends (Φ : Bool × Fin 14 → sProp 𝕄) :
    bigSep Finset.univ Φ = iprop((bigSep Finset.univ fun k => Φ (false, k)) ∗ bigSep Finset.univ fun k => Φ (true, k)) := by
  rw [bigSep_univ_prod]
  exact bigSep_univ_eq_bigSepL [false, true] (by decide) (by decide) _

omit [FloatOps F] in
theorem bigSep_14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [(0 : Fin 14), 1, 2, 3, 4, 5, 6, 7, 8, 9, 10, 11, 12, 13] (by decide) (by decide) _
omit [FloatOps F] in
theorem bigSep_4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) _

omit [FloatOps F] in
theorem tks_eq (c : Dev nD) : tks (F := F) c = bigSep Finset.univ fun k => tk (F := F) k c := by rw [bigSep_14]; rfl
omit [FloatOps F] in
theorem dns_eq (c : Dev nD) : dns (F := F) c = bigSep Finset.univ fun k => dn (F := F) k c := by rw [bigSep_14]; rfl

omit [FloatOps F] in
/-- A duplicable fact goes to every conjunct. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All transfers finished, all their cells close. -/
theorem close_dns (K : Dev nD × Option (Bool × Fin 14) → ℕ) (c : Dev nD) :
    iprop(env m K ∗ dns (F := F) c) ⊢ |={Set.univ}=> (bigSep Finset.univ fun i : Bool × Fin 14 => semVal (kcell (c, some i)) 0 : sProp 𝕄) := by
  rw [dns_eq, bigSep_ends, ← bigSep_sep']
  exact (bigSep_with fun k _ => close_dn m K k c).trans (bigSep_fupd _ _)

/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wpc c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19) (fun _ => bodyPost m c)
  unfold bodyPre Φ₀ start
  simp only [before_0, before_1, before_2, before_3]
  iintro ⟨⟨⟨⟨%K, #HE⟩, ⟨B0, B1, B2, B3⟩, Ht, Hc, Hat⟩, Hscr⟩, Ho, ⟨%d0, X⟩, ⟨%d1, G⟩, ⟨%d2, U⟩, ⟨%d3, D⟩, ⟨%d4, %f4, %h4, Y⟩⟩
  unfold Dat.owesAt Pipeline.owesWithin
  icases Ho with ⟨%W, %hW, HO⟩
  ihave X := (stg_all c _ _) $$ X
  ihave G := (stg_all c _ _) $$ G
  ihave U := (stg_all c _ _) $$ U
  ihave D := (stg_all c _ _) $$ D
  iapply (wp_fupd frame _ Set.univ)
  iapply (body_spec m K c)
  isplitr []
  · isplitr; · iexact HE
    isplitl [B0]; · iexact B0
    isplitl [B1]; · iexact B1
    isplitl [B2]; · iexact B2
    isplitl [B3]; · iexact B3
    isplitl [Ht]; · iexact Ht
    isplitl [Hc]; · iexact Hc
    isplitl [Hat]; · iexact Hat
    isplitl [HO]
    · unfold owb; iexists W; iexact HO
    isplitl [X]; · iexact X
    isplitl [G]; · iexact G
    isplitl [U]; · iexact U
    isplitl [D]; · iexact D
    isplitl [Y]; · (iexists f4; iexact Y)
    iexact Hscr
  iintro ⟨X, G, U, D, Y, Hd, Hat, HO, Hscr⟩
  imod (close_dns m K c) $$ [Hd] with HzD
  · isplitr; · iexact HE
    iexact Hd
  imod (close_bar m K c) $$ [Hat] with HzB
  · isplitr; · iexact HE
    iexact Hat
  imodintro
  unfold bodyPost Φ₁ Dat.owesAt Pipeline.owesWithin ow
  rw [owR_end]
  icases HO with ⟨%W', HO⟩
  isplitl [Hscr HzD HzB]
  · isplitl [Hscr]; · iexact Hscr
    isplitl [HzD] <;> iassumption
  isplitl [HO]
  · iexists W'
    isplitr; · (ipureintro; exact fun _ _ => Or.inl trivial)
    iexact HO
  isplitl [X]; · (iapply (all_stg c _ _); iexact X)
  isplitl [G]; · (iapply (all_stg c _ _); iexact G)
  isplitl [U]; · (iapply (all_stg c _ _); iexact U)
  isplitl [D]; · (iapply (all_stg c _ _); iexact D)
  iapply (all_stg c _ _); iexact Y

/-! ## The cells and their tokens -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def theCells : Finset (GSem nD τ sig) := Finset.univ.map ⟨kcell, kcell_injective⟩

/-- A device's own cells' duties: its barrier's four, one of each transfer's end. -/
def tokOf : Dev nD × (Fin 4 ⊕ (Bool × Fin 14)) → GSem nD τ sig × ℕ × Fin 4
  | (c, .inl d) => (barCell c, 0, d)
  | (c, .inr i) => (kcell (c, some i), 0, 0)
theorem tokOf_injective : Function.Injective tokOf := by
  rintro ⟨c, j⟩ ⟨c', j'⟩ h
  have hc (c : Dev nD) (j) : (tokOf (c, j)).1.1.1 = c := by cases j <;> rfl
  have h1 : c = c' := by rw [← hc c j, h, hc]
  subst h1
  rcases j with d | i <;> rcases j' with d' | i'
  · have : d = d' := congrArg (fun x : GSem nD τ sig × ℕ × Fin 4 => x.2.2) h
    rw [this]
  · have : (none : Option (Bool × Fin 14)) = some i' := csem_injective (congrArg (fun x : GSem nD τ sig × ℕ × Fin 4 => x.1.2) h)
    cases this
  · have : some i = (none : Option (Bool × Fin 14)) := csem_injective (congrArg (fun x : GSem nD τ sig × ℕ × Fin 4 => x.1.2) h)
    cases this
  · have : some i = some i' := csem_injective (congrArg (fun x : GSem nD τ sig × ℕ × Fin 4 => x.1.2) h)
    cases this; rfl
def theToks : Finset (GSem nD τ sig × ℕ × Fin 4) := Finset.univ.map ⟨tokOf, tokOf_injective⟩

def u₀ : UU := (initOf (Pipeline.cells cfgs cellOf_inj) (Pipeline.launchToks cfgs cellOf_inj), initOf theCells theToks)

/-- The duty tokens of device `c`'s own cells. -/
def toks (c : Dev nD) : sProp 𝕄 :=
  iprop((bigSep Finset.univ fun d : Fin 4 => dutyTok ER (barCell c) 0 d)
    ∗ bigSep Finset.univ fun i : Bool × Fin 14 => dutyTok ER (kcell (c, some i)) 0 0)

/-- Who pays an end of a transfer: the sender both of them. -/
def payer (i : Bool × Fin 14) (c : Dev nD) : Dev nD := if i.1 then peer i.2 c else c
theorem payer_payer (i : Bool × Fin 14) (c : Dev nD) : payer i (payer i c) = c := by
  unfold payer; split
  · exact peer_peer _ c
  · rfl

/-- The tokens of the duties device `c` pays. -/
def payToks (c : Dev nD) : sProp 𝕄 :=
  iprop((bigSep Finset.univ fun d : Fin 4 => dutyTok ER (barCell (prt d c)) 0 d)
    ∗ bigSep Finset.univ fun i : Bool × Fin 14 => dutyTok ER (kcell (payer i c, some i)) 0 0)

omit [FloatOps F] in
/-- Dealing along an involution for each name. -/
theorem deal {I : Type} [Fintype I] [DecidableEq I] (f : I → Dev nD → Dev nD) (hf : ∀ i c, f i (f i c) = c) (Φ : I → Dev nD → sProp 𝕄) :
    (bigSep Finset.univ fun c => bigSep Finset.univ fun i => Φ i c) = bigSep Finset.univ fun c => bigSep Finset.univ fun i => Φ i (f i c) := by
  rw [bigSep_univ_comm, bigSep_univ_comm (fun c i => Φ i (f i c))]
  exact bigSep_congr fun i _ => bigSep_univ_equiv ⟨f i, f i, hf i, hf i⟩ (Φ i)

omit [FloatOps F] in
theorem toks_around : (bigSep Finset.univ fun c : Dev nD => (toks c : sProp 𝕄)) = bigSep Finset.univ fun c : Dev nD => payToks c := by
  unfold toks payToks
  rw [bigSep_sep', bigSep_sep', deal prt prt_prt (fun d c => dutyTok ER (barCell c) 0 d),
    deal payer payer_payer (fun i c => dutyTok ER (kcell (c, some i)) 0 0)]

/-- What the launch element deals device `c`. -/
def G (c : Dev nD) : sProp 𝕄 :=
  iprop((bigSep Finset.univ fun k => roundState ER (rd m) (kcell (c, k)) 0)
    ∗ (bigSep Finset.univ fun k => iprop(atPos ER (kcell (c, k)) 0 ∅ 0 ∗ reached ER (kcell (c, k)) 0)) ∗ toks c)

/-- Every cell's invariant under a name, and its round 0 reached. -/
def records (K : Dev nD × Option (Bool × Fin 14) → ℕ) : sProp 𝕄 :=
  iprop((bigSep Finset.univ fun ci => cellInv ER (rd m) (K ci) (kcell ci)) ∗ bigSep Finset.univ fun ci => reached ER (kcell ci) 0)

instance records_persistent (K) : BI.Persistent (records m K) := by unfold records; infer_instance

/-- What stays with device `c`: its positions, and the tokens of the duties it pays. -/
def linear (c : Dev nD) : sProp 𝕄 :=
  iprop((bigSep Finset.univ fun k => atPos ER (kcell (c, k)) 0 ∅ 0) ∗ payToks c)

/-- What the allocation of the cells makes of it. -/
def G' (c : Dev nD) : sProp 𝕄 := iprop(∃ K, records m K ∗ linear c)

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_sum]; rfl
  iintro HX
  imod (Rounds.fund ER (rd m) theCells theToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The transfers' semaphores are its own scoped ones. -/
theorem ownSems0_eq (c : Dev nD) : (Pipeline.ownSems0 (Ix := Unit) (Name := ℕ) (U := UU) (Lvl := ℕ) (Val := Elt F) (τ := τ) osem c : sProp 𝕄)
    = bigSep Finset.univ fun i : Bool × Fin 14 => semVal (kcell (c, some i)) 0 := rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [unscopedSems0_eq, ownSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem G'_intro (K : Dev nD × Option (Bool × Fin 14) → ℕ) (c : Dev nD) : iprop(records m K ∗ linear c) ⊢ G' m c := by
  unfold G'
  iintro H
  iexists K; iexact H

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option (Bool × Fin 14) => iprop(∃ κ : ℕ, cellInv ER (rd m) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Bool × Fin 14) => (reached ER (kcell ck) 0 : sProp 𝕄)), toks_around]
  iintro ⟨HI, ⟨Hat, #HR⟩, Htok⟩
  ihave HK := (BI.bigSep_exists_pi Finset.univ (fun (ck : Dev nD × Option (Bool × Fin 14)) (κ : ℕ) => (cellInv ER (rd m) κ (kcell ck) : sProp 𝕄))) $$ HI
  icases HK with ⟨%K, #HI⟩
  iapply (bigSep_with (R := records m K) fun c _ => G'_intro m K c)
  isplitr
  · unfold records; isplitl; · iexact HI
    iexact HR
  · unfold linear
    rw [bigSep_sep']
    isplitl [Hat]; · iexact Hat
    iexact Htok

/-- Own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq {a b : Dev nD} (h : barCell a = barCell b) : a = b := congrArg (fun g : GSem nD τ sig => g.1.1) h
theorem recvSem_injective : Function.Injective recvSem := by decide
theorem recv_eq {k j : Fin 14} {a b : Dev nD} (h : recvCell k a = recvCell j b) : k = j ∧ a = b := by
  refine ⟨recvSem_injective ?_, congrArg (fun g : GSem nD τ sig => g.1.1) h⟩
  have h2 : SemLoc.dma (recvSem k) = (SemLoc.dma (recvSem j) : SemLoc sig) := congrArg Prod.snd h
  injection h2
theorem recv_ne_bar (k : Fin 14) (a b : Dev nD) : recvCell k a ≠ barCell b := fun h => by
  have h2 : SemLoc.dma (recvSem k) = (SemLoc.reg barS : SemLoc sig) := congrArg Prod.snd h
  cases h2

theorem O₀_apply (d : Dev nD) (g : GSem nD τ sig) : O₀ d g ()
    = (∑ k : Fin 14, (tallyAt (recvCell k (peer k d)) () (amt k) : CellTallies nD τ sig Unit) g ())
      + ∑ j : Fin 4, (tallyAt (barCell (prt j d)) () 1 : CellTallies nD τ sig Unit) g () := by
  unfold O₀ owB owR
  rw [Pi.add_apply, Finsupp.add_apply, Finset.sum_apply, Finset.sum_apply, Finsupp.finset_sum_apply, Finsupp.finset_sum_apply,
    Finset.filter_true_of_mem (fun _ _ => Nat.zero_le _), Finset.filter_true_of_mem (fun _ _ => Nat.zero_le _)]

/-- What device `d` owes device `c`'s barrier cell: a unit for each direction in which `d` lies. -/
theorem owed_bar (d c : Dev nD) : O₀ d (barCell c) () = ∑ j : Fin 4, if d = prt j c then 1 else 0 := by
  rw [O₀_apply, Finset.sum_eq_zero (fun k _ => by rw [tallyAt_ne_cell (fun h => recv_ne_bar _ _ _ h.symm)]; rfl), Nat.zero_add]
  refine Finset.sum_congr rfl fun j _ => ?_
  rw [tallyAt_apply]
  by_cases h : d = prt j c
  · subst h; rw [prt_prt, if_pos ⟨rfl, rfl⟩, if_pos rfl]
  · rw [if_neg (fun ⟨h1, _⟩ => h (by rw [bar_eq h1, prt_prt])), if_neg h]

theorem owed_recv (k : Fin 14) (d c : Dev nD) : O₀ d (recvCell k c) () = if d = peer k c then amt k else 0 := by
  rw [O₀_apply, Finset.sum_eq_zero (s := (Finset.univ : Finset (Fin 4))) (fun j _ => by rw [tallyAt_ne_cell (recv_ne_bar _ _ _)]; rfl), Nat.add_zero,
    Finset.sum_eq_single k (fun j _ hj => by rw [tallyAt_ne_cell (fun h => hj (recv_eq h).1.symm)]; rfl) (fun h => absurd (Finset.mem_univ _) h),
    tallyAt_apply]
  by_cases h : d = peer k c
  · subst h; rw [peer_peer, if_pos ⟨rfl, rfl⟩, if_pos rfl]
  · rw [if_neg (fun ⟨h1, _⟩ => h (by rw [(recv_eq h1).2, peer_peer])), if_neg h]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (prt j c) fun _ => 1).trans (if_pos (Finset.mem_univ _))]
  rfl

theorem launch_recv (k : Fin 14) (c : Dev nD) :
    tallyOn (recvCell k c) (launchCredit (Pipeline.owing O₀) 0 (recvCell k c)) = (tallyAt (recvCell k c) () (amt k) : CellTallies nD τ sig Unit) := by
  unfold tallyAt; refine congrArg _ (Finsupp.ext fun u => ?_); cases u
  rw [Pipeline.launchCredit_owing, Finsupp.single_eq_same, Finset.sum_congr rfl fun d _ => owed_recv k d c,
    Finset.sum_ite_eq' Finset.univ (peer k c) fun _ => amt k, if_pos (Finset.mem_univ _)]

/-- The receive semaphores among all. -/
def recvs : Finset (SemLoc sig) := Finset.univ.map ⟨fun k => SemLoc.dma (recvSem k), fun a b h => recvSem_injective (by injection h)⟩

omit [FloatOps F] in
theorem creds (c : Dev nD) : (Pipeline.launchCred O₀ c : sProp 𝕄)
    ⊢ iprop(cred (tallyAt (barCell c) () 4) ∗ bigSep Finset.univ fun k => cred (tallyAt (recvCell k c) () (amt k))) := by
  unfold Pipeline.launchCred
  rw [bigSep_univ_at _ (SemLoc.reg barS), launch_bar]
  refine sep_mono_right ?_
  refine (bigSep_subset (t := recvs) fun s hs => ?_).trans ?_
  · obtain ⟨k, -, rfl⟩ := Finset.mem_map.mp hs
    exact Finset.mem_erase.mpr ⟨fun h => (by cases h), Finset.mem_univ _⟩
  · unfold recvs
    rw [bigSep_map]
    exact Entails.of_eq (bigSep_congr fun k _ => congrArg cred (launch_recv k c))

/-! ## The launch theorem's side conditions -/

omit [FloatOps F] in
/-- A device's tokens, positions and credits, by transfer. -/
theorem tks_intro (c : Dev nD) :
    iprop(linear (F := F) c ∗ bigSep Finset.univ fun k => cred (tallyAt (recvCell k c) () (amt k)))
      ⊢ iprop((bt (F := F) 0 c ∗ bt (F := F) 1 c ∗ bt (F := F) 2 c ∗ bt (F := F) 3 c) ∗ tks (F := F) c ∗ atPos ER (barCell c) 0 ∅ 0) := by
  unfold linear payToks
  rw [tks_eq]
  unfold tk
  rw [bigSep_sep', bigSep_sep', bigSep_sep', bigSep_sep', bigSep_option, bigSep_ends, bigSep_ends, bigSep_4]
  iintro ⟨⟨⟨HaB, HaS, HaR⟩, HtB, HtS, HtR⟩, Hc⟩
  isplitl [HtB]; · iexact HtB
  isplitr [HaB]
  · isplitl [HtS]; · iexact HtS
    isplitl [HtR]; · iexact HtR
    isplitl [HaS]; · iexact HaS
    isplitl [HaR]; · iexact HaR
    iexact Hc
  iexact HaB

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  unfold G'
  icases HG with ⟨%K, HR, Hl⟩
  ihave Ht := (tks_intro (F := F) c) $$ [Hl HN]
  · isplitl [Hl] <;> iassumption
  icases Ht with ⟨HB, Ht, HaB⟩
  imodintro
  unfold start
  isplitl
  · isplitl [HR Hlev]
    · iexists K; unfold env
      isplitl [HR]
      · unfold records; iexact HR
      iexact Hlev
    isplitl [HB]; · iexact HB
    isplitl [Ht]; · iexact Ht
    isplitl [H1]; · iexact H1
    iexact HaB
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscopedSems0_eq, ownSems0_eq]
  unfold Φ₁ scr
  iintro ⟨Hr, HzD, HzB⟩
  isplitl [HzB]; · iexact HzB
  isplitl [HzD]; · iexact HzD
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- The arrays after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- From any memory with zero counters every run of the sixteen devices ends, with each device's arrays as computed and
    every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs after the run hold what they held. -/
theorem final_0 (c : Dev nD) : finalA m c (0 : Fin 5) = m ((c : Thread nD τ).loc main_arg0) := (dats (F := F) m 0 c).arrAt_in (0 : Fin 5) rfl _
theorem final_1 (c : Dev nD) : finalA m c (1 : Fin 5) = m ((c : Thread nD τ).loc main_arg1) := (dats (F := F) m 0 c).arrAt_in (1 : Fin 5) rfl _
theorem final_2 (c : Dev nD) : finalA m c (2 : Fin 5) = m ((c : Thread nD τ).loc main_arg2) := (dats (F := F) m 0 c).arrAt_in (2 : Fin 5) rfl _
theorem final_3 (c : Dev nD) : finalA m c (3 : Fin 5) = m ((c : Thread nD τ).loc main_arg3) := (dats (F := F) m 0 c).arrAt_in (3 : Fin 5) rfl _

end Cert.KernelIdeal.Proto

end
-- ==== Proof.Frames.lean ====
/-
# The three frames

Each program runs to its end, its arguments unchanged and every semaphore counter at zero.
-/
module

public import proofs.«01_k».proof.Defs
public import proofs.«01_k».proof.Proof.KB.Launch
public import proofs.«01_k».proof.Proof.KI.Launch
public import proofs.«01_k».proof.Proof.Gen.ReferenceIdeal.Run

@[expose] public section

noncomputable section

namespace Cert.Proof

open Idealize.ShloMosaic Idealize.SL.Sem

/-- The kernel's run at the bit-exact floats. -/
theorem frame_kernel : Cert.quiescent_Kernel (hKernel := Cert.Kernel.Gen.facts) := fun m g _ =>
  (θ_run Cert.Kernel.defs _ _).mono
    (fun _ h => ⟨fun c => ⟨(h.1 c (0 : Fin 5)).trans (Cert.Kernel.Proto.final_0 m c), (h.1 c (1 : Fin 5)).trans (Cert.Kernel.Proto.final_1 m c),
      (h.1 c (2 : Fin 5)).trans (Cert.Kernel.Proto.final_2 m c), (h.1 c (3 : Fin 5)).trans (Cert.Kernel.Proto.final_3 m c)⟩, h.2⟩)
    (Cert.Kernel.Proto.run_main (F := Bits) m g)

/-- The kernel's run at the ideal floats. -/
theorem frame_kernelIdeal : Cert.quiescent_KernelIdeal (hKernelIdeal := Cert.KernelIdeal.Gen.facts) := fun m g _ =>
  (θ_run Cert.KernelIdeal.defs _ _).mono
    (fun _ h => ⟨fun c => ⟨(h.1 c (0 : Fin 5)).trans (Cert.KernelIdeal.Proto.final_0 m c), (h.1 c (1 : Fin 5)).trans (Cert.KernelIdeal.Proto.final_1 m c),
      (h.1 c (2 : Fin 5)).trans (Cert.KernelIdeal.Proto.final_2 m c), (h.1 c (3 : Fin 5)).trans (Cert.KernelIdeal.Proto.final_3 m c)⟩, h.2⟩)
    (Cert.KernelIdeal.Proto.run_main (F := Ideal) m g)

/-- The reference's run: a list of host operations, and no semaphore at all. -/
theorem frame_referenceIdeal : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

end Cert.Proof

end
-- ==== Proof.Value.lean ====
/-
# The value

Over the extended reals every device's result is the reference's.  A device's plane after the four exchanges is the
sum of all sixteen contributions; a contribution is the part of the second product's sum that runs over the columns
the device holds; and sixteen such parts are the whole sum.
-/
module

public import proofs.«01_k».proof.Defs
public import proofs.«01_k».proof.Proof.KI.Launch
public import proofs.«01_k».proof.Proof.Gen.ReferenceIdeal.Run
public import Idealize.ShloMosaic.PureOps.Ideal
public import Idealize.ShloMosaic.PureOps.Ideal.Laws
public import Idealize.ShloMosaic.Lib.ValueIdx
public import Idealize.ShloMosaic.Lib.Layout

@[expose] public section

set_option maxRecDepth 8000

noncomputable section

namespace Cert.Proof.Value

open Idealize.ShloMosaic Idealize.ShloMosaic.TcCoe Idealize.SL.Sem
open Cert.KernelIdeal Cert.KernelIdeal.Gen Cert.KernelIdeal.Proto
open scoped BigOperators

/-! ## Products as sums -/

/-- The contraction of a row of the left operand with a column of the right one, as a sum over the shared axis. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine Fintype.sum_equiv (ValueIdx.contrEquiv1 (DotDims.plain M K N) K rfl rfl) _ _ fun k => ?_
  congr 2 <;> (funext a; apply Fin.ext; fin_cases a <;> rfl)

/-! ## The gated unit -/

/-- `1 + exp` of anything is not zero. -/
theorem one_add_exp_ne (x : EReal) : (1 : EReal) + Ideal.exp x ≠ 0 := by
  induction x using EReal.rec with
  | bot => simp
  | top => rw [Ideal.exp_top, EReal.add_top_of_ne_bot (show (1 : EReal) ≠ ⊥ from EReal.coe_ne_bot 1)]; exact EReal.top_ne_zero
  | coe r =>
    have h : (0 : ℝ) < 1 + Real.exp r := by positivity
    have e : (1 : EReal) + Ideal.exp (r : EReal) = ((1 + Real.exp r : ℝ) : EReal) := by simp
    rw [e]
    exact_mod_cast h.ne'

/-- A number times its logistic is the number over `1 + exp` of its negative. -/
theorem mul_logistic (u : EReal) : u * Ideal.logistic u = Ideal.div u (1 + Ideal.exp (-u)) := by
  unfold Ideal.logistic Ideal.div
  rw [if_neg (one_add_exp_ne _), if_neg (one_add_exp_ne _), one_mul]

/-! ## The sum over the devices -/

/-- The devices in the order in which the exchanges starting at `c` meet them. -/
def met (c : Dev nD) : Fin 16 → Dev nD :=
  ![c, px c, py c, px (py c), pz c, px (pz c), py (pz c), px (py (pz c)),
    pw c, px (pw c), py (pw c), px (py (pw c)), pz (pw c), px (pz (pw c)), py (pz (pw c)), px (py (pz (pw c)))]

/-- They are all the devices, each once. -/
theorem met_bijective : ∀ c : Dev nD, Function.Bijective (met c) := by
  intro c
  refine Function.Injective.bijective_of_nat_card_le (f := met c) ?_ (by simp [nD])
  revert c
  unfold Function.Injective
  decide +kernel

/-- A sum over the devices, in the order they are met. -/
theorem sum_met (f : Dev nD → EReal) (c : Dev nD) : ∑ d : Dev nD, f d = ∑ i : Fin 16, f (met c i) :=
  ((met_bijective c).sum_comp f).symm

/-- Four rounds of adding the partner's plane add all sixteen contributions. -/
theorem rounds (f : Dev nD → EReal) (c : Dev nD) :
    (((f c + f (px c)) + (f (py c) + f (px (py c)))) + ((f (pz c) + f (px (pz c))) + (f (py (pz c)) + f (px (py (pz c))))))
      + (((f (pw c) + f (px (pw c))) + (f (py (pw c)) + f (px (py (pw c)))))
        + ((f (pz (pw c)) + f (px (pz (pw c)))) + (f (py (pz (pw c))) + f (px (py (pz (pw c))))))) = ∑ d : Dev nD, f d := by
  rw [sum_met f c]
  simp only [Fin.sum_univ_succ, met]
  simp [add_assoc]

variable (m : (ℓ : Loc nD τ sig) → Buf (Elt Ideal) ℓ)

/-- The left half's last plane is the sum of the contributions, on every device. -/
theorem tA4_eq (c : Dev nD) (r q : ℕ) : tA4 m c r q = (∑ d : Dev nD, pP m d r q : EReal) := rounds (fun d => pP m d r q) c

/-- The first two directions commute. -/
theorem px_py : ∀ c : Dev nD, py (px c) = px (py c) := by decide

/-- The two halves exchange along the first two directions in opposite orders; the sums are the same. -/
theorem tB2_eq : tB2 m = tA2 m := by
  funext c r q
  have h : ∀ a b d e : EReal, a + d + (b + e) = a + b + (d + e) := fun a b d e => add_add_add_comm a d b e
  show ((pP m c r q : EReal) + pP m (py c) r q) + (pP m (px c) r q + pP m (py (px c)) r q)
    = (pP m c r q + pP m (px c) r q) + (pP m (py c) r q + pP m (px (py c)) r q)
  rw [px_py, h]

/-- So the right half's last plane is the sum of the contributions too. -/
theorem tB4_eq (c : Dev nD) (r q : ℕ) : tB4 m c r q = (∑ d : Dev nD, pP m d r q : EReal) := by
  rw [← tA4_eq m c]
  unfold tB4 tB3 tA4 tA3
  rw [tB2_eq]

/-- What every device ends with: the sum of the contributions. -/
theorem oV_eq (c : Dev nD) (i : S768x768.Idx) : oV m c i = (∑ d : Dev nD, pP m d (i 0).val (i 1).val : EReal) := by
  unfold oV
  split
  · exact tA4_eq m _ _ _
  · exact tB4_eq m _ _ _

/-! ## One device's contribution -/

/-- The gated hidden value, from the two products. -/
def gated (g u : EReal) : EReal := g * Ideal.div u (1 + Ideal.exp (-u))

/-- The first layer's product at an index. -/
theorem up_apply (x : FVec Ideal S384x768 .bf16) (w : FVec Ideal S768x1536 .bf16) (j : S384x1536.Idx) :
    matmul dot_S384x768_S768x1536_S384x1536_1_0_0_1_n_n none x w (constant S384x1536 .f32 0x00000000#32) j
      = (∑ l : Fin 768, x (ix2 (j 0) l) * w (ix2 l (j 1)) : EReal) :=
  (Ideal.matmul_constant_zero_apply _ none x w j).trans (plain_sum (M := 384) (K := 768) (N := 1536) x w j)

/-- The second layer's product at an index. -/
theorem down_apply (h : FVec Ideal S384x1536 .bf16) (d : FVec Ideal S1536x384 .bf16) (j : S384x384.Idx) :
    matmul dot_S384x1536_S1536x384_S384x384_1_0_0_1_n_n none h d (constant S384x384 .f32 0x00000000#32) j
      = (∑ k : Fin 1536, h (ix2 (j 0) k) * d (ix2 k (j 1)) : EReal) :=
  (Ideal.matmul_constant_zero_apply _ none h d j).trans (plain_sum (M := 384) (K := 1536) (N := 384) h d j)

/-- A block of the hidden layer at an index. -/
theorem pay5_apply (x : FVec Ideal S384x768 .bf16) (g u : FVec Ideal S768x1536 .bf16) (j : S384x1536.Idx) :
    k0_pay5 (F := Ideal) x g u j = gated (∑ l : Fin 768, x (ix2 (j 0) l) * g (ix2 l (j 1))) (∑ l : Fin 768, x (ix2 (j 0) l) * u (ix2 l (j 1))) := by
  have h : k0_pay5 (F := Ideal) x g u
      = truncf .bf16 (mulf (matmul dot_S384x768_S768x1536_S384x1536_1_0_0_1_n_n none x g (constant S384x1536 .f32 0x00000000#32))
          (mulf (matmul dot_S384x768_S768x1536_S384x1536_1_0_0_1_n_n none x u (constant S384x1536 .f32 0x00000000#32))
            (logistic (matmul dot_S384x768_S768x1536_S384x1536_1_0_0_1_n_n none x u (constant S384x1536 .f32 0x00000000#32))))) bitsLt_bf16_f32 :=
    shapeCast_self _ _
  rw [← up_apply x g j, ← up_apply x u j]
  exact (congrFun h j).trans (congrArg (fun a : EReal => _ * a) (mul_logistic _))

/-- A block of a contribution at an index. -/
theorem pay6_apply (h : FVec Ideal S384x1536 .bf16) (d : FVec Ideal S1536x384 .bf16) (j : S384x384.Idx) :
    k0_pay6 (F := Ideal) h d j = (∑ k : Fin 1536, h (ix2 (j 0) k) * d (ix2 k (j 1)) : EReal) := by
  have e : k0_pay6 (F := Ideal) h d
      = truncf .bf16 (matmul dot_S384x1536_S1536x384_S384x384_1_0_0_1_n_n none h d (constant S384x384 .f32 0x00000000#32)) bitsLt_bf16_f32 :=
    shapeCast_self _ _
  exact (congrFun e j).trans (down_apply h d j)

/-- An array's plane at an index in bounds is the array there. -/
theorem toPlane_at {α : Type} {n k : ℕ} [NeZero n] [NeZero k] (f : (⟨2, ![n, k]⟩ : Shape).Idx → α) {r q : ℕ} (a : Fin n) (b : Fin k)
    (hr : r = a.val) (hq : q = b.val) : toPlane f r q = f (ix2 a b) := by
  subst hr hq
  unfold toPlane
  congr 1
  rw [Fin.ofNat_eq_cast, Fin.ofNat_eq_cast, Fin.cast_val_eq_self, Fin.cast_val_eq_self]

/-- A staged buffer holds its whole argument, and the cast of it is the argument too. -/
theorem xS_eq (c : Dev nD) : xS m c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz _ _
theorem gS_eq (c : Dev nD) : gS m c = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz _ _
theorem uS_eq (c : Dev nD) : uS m c = m ((c : Thread nD τ).loc main_arg2) := by
  have hz : (fun a => (win0_2.index (0 : Fin 1)) a * main_arg2.ty.shape.size a) = fun _ => 0 := funext fun a => by fin_cases a <;> decide
  exact Memref.read_access_unit_zero (Elt Ideal) main_arg2 hz _ _
theorem dS_eq (c : Dev nD) : dS m c = m ((c : Thread nD τ).loc main_arg3) := by
  have hz : (fun a => (win0_3.index (0 : Fin 1)) a * main_arg3.ty.shape.size a) = fun _ => 0 := funext fun a => by fin_cases a <;> decide
  exact Memref.read_access_unit_zero (Elt Ideal) main_arg3 hz _ _
theorem xV_eq (c : Dev nD) : xV m c = m ((c : Thread nD τ).loc main_arg0) := (shapeCast_self _ _).trans ((shapeCast_self _ _).trans (xS_eq m c))
theorem gV_eq (c : Dev nD) : gV m c = m ((c : Thread nD τ).loc main_arg1) := (shapeCast_self _ _).trans ((shapeCast_self _ _).trans (gS_eq m c))
theorem uV_eq (c : Dev nD) : uV m c = m ((c : Thread nD τ).loc main_arg2) := (shapeCast_self _ _).trans ((shapeCast_self _ _).trans (uS_eq m c))
theorem dV_eq (c : Dev nD) : dV m c = m ((c : Thread nD τ).loc main_arg3) := (shapeCast_self _ _).trans ((shapeCast_self _ _).trans (dS_eq m c))

/-- The hidden layer at a row and a column. -/
theorem hP_apply (c : Dev nD) (r : Fin 768) (k : Fin 1536) :
    hP m c r.val k.val = gated (∑ l : Fin 768, xV m c (ix2 r l) * gV m c (ix2 l k)) (∑ l : Fin 768, xV m c (ix2 r l) * uV m c (ix2 l k)) := by
  refine (pay5_apply (plane (toPlane (xV m c)) (384 * (r.val / 384)) 0) (gV m c) (uV m c) (ix2 (Fin.ofNat 384 r.val) (Fin.ofNat 1536 k.val))).trans ?_
  have hx : ∀ l : Fin 768, plane (n := 384) (m := 768) (toPlane (xV m c)) (384 * (r.val / 384)) 0 (ix2 (Fin.ofNat 384 r.val) l) = xV m c (ix2 r l) := fun l =>
    toPlane_at _ r l (Nat.div_add_mod r.val 384) (Nat.zero_add _)
  have hk : Fin.ofNat 1536 k.val = k := Fin.ext (Nat.mod_eq_of_lt k.isLt)
  show gated (∑ l : Fin 768, plane (n := 384) (m := 768) (toPlane (xV m c)) (384 * (r.val / 384)) 0 (ix2 (Fin.ofNat 384 r.val) l) * gV m c (ix2 l (Fin.ofNat 1536 k.val)))
    (∑ l : Fin 768, plane (n := 384) (m := 768) (toPlane (xV m c)) (384 * (r.val / 384)) 0 (ix2 (Fin.ofNat 384 r.val) l) * uV m c (ix2 l (Fin.ofNat 1536 k.val))) = _
  simp only [hx, hk]

/-- A contribution at a row and a column. -/
theorem pP_apply (c : Dev nD) (r q : Fin 768) :
    pP m c r.val q.val = (∑ k : Fin 1536, hP m c r.val k.val * dV m c (ix2 k q) : EReal) := by
  refine (pay6_apply (plane (hP m c) (384 * (r.val / 384)) 0) (plane (toPlane (dV m c)) 0 (384 * (q.val / 384)))
    (ix2 (Fin.ofNat 384 r.val) (Fin.ofNat 384 q.val))).trans ?_
  refine Finset.sum_congr rfl fun k _ => ?_
  refine congrArg₂ (fun a b : EReal => a * b) ?_ ?_
  · show hP m c (384 * (r.val / 384) + r.val % 384) (0 + k.val) = _
    rw [Nat.div_add_mod, Nat.zero_add]
  · exact toPlane_at _ k q (Nat.zero_add _) (Nat.div_add_mod q.val 384)

/-! ## The reference -/

/-- The reference's result at a row and a column, as an operation on whole arrays. -/
def wholeAt (x : S768x768.Idx → EReal) (G U : (⟨2, ![768, 24576]⟩ : Shape).Idx → EReal) (D : (⟨2, ![24576, 768]⟩ : Shape).Idx → EReal)
    (r q : Fin 768) : EReal :=
  ∑ k : Fin 24576, gated (∑ l : Fin 768, x (ix2 r l) * G (ix2 l k)) (∑ l : Fin 768, x (ix2 r l) * U (ix2 l k)) * D (ix2 k q)

/-- The reference's result. -/
def whole (x : S768x768.Idx → EReal) (G U : (⟨2, ![768, 24576]⟩ : Shape).Idx → EReal) (D : (⟨2, ![24576, 768]⟩ : Shape).Idx → EReal) :
    S768x768.Idx → EReal := fun i => wholeAt x G U D (i 0) (i 1)

/-- A sum over the long axis, split by the device that holds each index. -/
theorem sum_split (f : Fin 24576 → EReal) :
    ∑ k : Fin 24576, f k = ∑ d : Fin 16, ∑ k : Fin 1536, f ⟨d.val * 1536 + k.val, by omega⟩ := by
  rw [← Fintype.sum_prod_type' (f := fun (d : Fin 16) (k : Fin 1536) => f ⟨d.val * 1536 + k.val, by omega⟩)]
  refine (Fintype.sum_equiv (finProdFinEquiv (m := 16) (n := 1536)) _ _ fun p => ?_).symm
  congr 1
  apply Fin.ext
  show p.1.val * 1536 + p.2.val = p.2.val + 1536 * p.1.val
  omega

/-- The reference's term is that operation. -/
theorem reference_eq (x : FVec Ideal S768x768 .f32) (G U : FVec Ideal Cert.ReferenceIdeal.S768x24576 .f32) (D : FVec Ideal Cert.ReferenceIdeal.S24576x768 .f32) :
    Host.dotGeneral Cert.ReferenceIdeal.dot_S768x24576_S24576x768_S768x768_1_0_0_1_n_n none
      (mulf (Host.dotGeneral Cert.ReferenceIdeal.dot_S768x768_S768x24576_S768x24576_1_0_0_1_n_n none x G)
        (Host.divf (Host.dotGeneral Cert.ReferenceIdeal.dot_S768x768_S768x24576_S768x24576_1_0_0_1_n_n none x U)
          (addf (broadcastInDim Cert.ReferenceIdeal.S768x24576 ![] Cert.ReferenceIdeal.Gen.bcast_S_S768x24576 (constant Cert.ReferenceIdeal.S_ .f32 0x3F800000#32))
            (Host.exp (Host.negf (Host.dotGeneral Cert.ReferenceIdeal.dot_S768x768_S768x24576_S768x24576_1_0_0_1_n_n none x U)))))) D
      = whole x G U D := by
  have e : ∀ (W : FVec Ideal Cert.ReferenceIdeal.S768x24576 .f32) (a : Fin 768) (k : Fin 24576),
      Host.dotGeneral Cert.ReferenceIdeal.dot_S768x768_S768x24576_S768x24576_1_0_0_1_n_n none x W (ix2 a k)
        = (∑ l : Fin 768, x (ix2 a l) * W (ix2 l k) : EReal) := fun W a k =>
    (Ideal.dotGeneral_apply _ none _ x W (ix2 a k)).trans (plain_sum (M := 768) (K := 768) (N := 24576) x W (ix2 a k))
  have one : Ideal.ofBits .f32 0x3F800000#32 = 1 := by
    simp [Ideal.ofBits, Ideal.ieee, -EReal.coe_mul]; norm_num
  have e₂ : ∀ (H : FVec Ideal Cert.ReferenceIdeal.S768x24576 .f32) (i : S768x768.Idx),
      Host.dotGeneral Cert.ReferenceIdeal.dot_S768x24576_S24576x768_S768x768_1_0_0_1_n_n none H D i
        = (∑ k : Fin 24576, H (ix2 (i 0) k) * D (ix2 k (i 1)) : EReal) := fun H i =>
    (Ideal.dotGeneral_apply _ none _ H D i).trans (plain_sum (M := 768) (K := 24576) (N := 768) H D i)
  funext i
  rw [e₂]
  unfold whole wholeAt
  refine Finset.sum_congr rfl fun k _ => congrArg (fun a : EReal => a * D (ix2 k (i 1))) ?_
  refine Eq.trans (b := gated (Host.dotGeneral Cert.ReferenceIdeal.dot_S768x768_S768x24576_S768x24576_1_0_0_1_n_n none x G (ix2 (i 0) k))
    (Host.dotGeneral Cert.ReferenceIdeal.dot_S768x768_S768x24576_S768x24576_1_0_0_1_n_n none x U (ix2 (i 0) k))) ?_
    (congrArg₂ gated (e G (i 0) k) (e U (i 0) k))
  unfold gated
  rw [← one]
  rfl

/-- The devices' contributions, each computed from its own blocks, add up to the reference's result. -/
theorem sum_eq_whole (x : S768x768.Idx → EReal) (G U : (⟨2, ![768, 24576]⟩ : Shape).Idx → EReal) (D : (⟨2, ![24576, 768]⟩ : Shape).Idx → EReal)
    (h : ∀ c : Dev nD, m ((c : Thread nD τ).loc main_arg0) = x
      ∧ m ((c : Thread nD τ).loc main_arg1) = Layout.block ⟨2, ![768, 1536]⟩ ⟨2, ![768, 24576]⟩ 1 16 c G
      ∧ m ((c : Thread nD τ).loc main_arg2) = Layout.block ⟨2, ![768, 1536]⟩ ⟨2, ![768, 24576]⟩ 1 16 c U
      ∧ m ((c : Thread nD τ).loc main_arg3) = Layout.block ⟨2, ![1536, 768]⟩ ⟨2, ![24576, 768]⟩ 0 16 c D) (r q : Fin 768) :
    (∑ d : Dev nD, pP m d r.val q.val : EReal) = wholeAt x G U D r q := by
  unfold wholeAt
  rw [sum_split]
  refine Finset.sum_congr rfl fun d _ => ?_
  refine (pP_apply m d r q).trans (Finset.sum_congr rfl fun k _ => ?_)
  obtain ⟨h0, h1, h2, h3⟩ := h d
  rw [hP_apply, xV_eq, gV_eq, uV_eq, dV_eq, h0, h1, h2, h3]
  have hd : d.val < 16 := d.isLt
  have cols : ∀ (W : (⟨2, ![768, 24576]⟩ : Shape).Idx → EReal) (l : Fin 768),
      Layout.block ⟨2, ![768, 1536]⟩ ⟨2, ![768, 24576]⟩ 1 16 d W (by decide) (ix2 l k) = W (ix2 l ⟨d.val * 1536 + k.val, by omega⟩) := fun W l =>
    congrArg W (by funext a; apply Fin.ext; fin_cases a <;> rfl)
  have rows : Layout.block ⟨2, ![1536, 768]⟩ ⟨2, ![24576, 768]⟩ 0 16 d D (by decide) (ix2 k q) = D (ix2 ⟨d.val * 1536 + k.val, by omega⟩ q) :=
    congrArg D (by funext a; apply Fin.ext; fin_cases a <;> rfl)
  simp only [cols, rows]

/-! ## The claim -/

/-- The result array after the run holds the result buffer's contents. -/
theorem final_4 (c : Dev nD) : finalA m c (4 : Fin 5) = oV m c := by
  have hz : (fun a => (win0_4.index (0 : Fin 1)) a * main_v1.ty.shape.size a) = fun _ => 0 := funext fun a => by fin_cases a <;> decide
  refine (((dats m 0 c).arrAt_succ (4 : Fin 5) t0_0).trans (if_pos rfl)).trans ?_
  exact Memref.write_access_unit_zero_univ (Elt Ideal) main_v1 hz _ _ _

end Cert.Proof.Value

namespace Cert.Proof

open Idealize.ShloMosaic Idealize.ShloMosaic.TcCoe Idealize.SL.Sem

/-- Every result of the kernel is the reference's, over the extended reals. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨Value.whole (m' (((0 : Dev Cert.ReferenceIdeal.nD).tc : Thread _ _).loc Cert.ReferenceIdeal.main_arg0))
    (m' (((0 : Dev Cert.ReferenceIdeal.nD).tc : Thread _ _).loc Cert.ReferenceIdeal.main_arg1))
    (m' (((0 : Dev Cert.ReferenceIdeal.nD).tc : Thread _ _).loc Cert.ReferenceIdeal.main_arg2))
    (m' (((0 : Dev Cert.ReferenceIdeal.nD).tc : Thread _ _).loc Cert.ReferenceIdeal.main_arg3)), ?_, ?_⟩
  · exact (θ_run Cert.KernelIdeal.defs _ _).mono
      (fun _ h c => ⟨(h.1 c (4 : Fin 5)).trans ((Value.final_4 m c).trans (funext fun i => (Value.oV_eq m c i).trans (Value.sum_eq_whole m _ _ _ _ hagree (i 0) (i 1)))),
        (h.1 c (0 : Fin 5)).trans (Cert.KernelIdeal.Proto.final_0 m c), (h.1 c (1 : Fin 5)).trans (Cert.KernelIdeal.Proto.final_1 m c),
        (h.1 c (2 : Fin 5)).trans (Cert.KernelIdeal.Proto.final_2 m c), (h.1 c (3 : Fin 5)).trans (Cert.KernelIdeal.Proto.final_3 m c)⟩)
      (Cert.KernelIdeal.Proto.run_main (F := Ideal) m g)
  · exact (θ_run Cert.ReferenceIdeal.defs _ _).mono
      (fun _ h => ⟨((h 0).1).trans (Value.reference_eq _ _ _ _), (h 0).2⟩)
      (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
